-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_rows [hPre_finite_rows : Cert.Pre_finite_rows.Facts] (m : (ℓ : Loc Cert.KernelIdeal.nD Cert.KernelIdeal.τ Cert.KernelIdeal.sig) → Buf (Elt Ideal) ℓ) : Prop :=
  ∀ c : Dev Cert.KernelIdeal.nD,
    (Cert.Pre_finite_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_rows [hPre_finite_rows : Cert.Pre_finite_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_rows [hKernelIdeal : Cert.KernelIdeal.Facts] [hPre_finite_rows : Cert.Pre_finite_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_rows m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_rows [hReferenceIdeal : Cert.ReferenceIdeal.Facts] [hPre_finite_rows : Cert.Pre_finite_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "inv_n" .f32 0x3883126F#32 ((1 / 16000 : ℝ) : EReal)

def algebraic_KernelIdeal_ReferenceIdeal_pre_finite_rows [hKernelIdeal : Cert.KernelIdeal.Facts] [hReferenceIdeal : Cert.ReferenceIdeal.Facts] [hPre_finite_rows : Cert.Pre_finite_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_rows m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_rows : Cert.Pre_finite_rows.Facts),
    quiescent_Kernel (hKernel := hKernel)
    ∧ quiescent_KernelIdeal (hKernelIdeal := hKernelIdeal)
    ∧ quiescent_KernelIdeal_pre_finite_rows (hKernelIdeal := hKernelIdeal) (hPre_finite_rows := hPre_finite_rows)
    ∧ quiescent_ReferenceIdeal (hReferenceIdeal := hReferenceIdeal)
    ∧ quiescent_ReferenceIdeal_pre_finite_rows (hReferenceIdeal := hReferenceIdeal) (hPre_finite_rows := hPre_finite_rows)
    ∧ preserves_Kernel_KernelIdeal
    ∧ algebraic_KernelIdeal_ReferenceIdeal_pre_finite_rows (hKernelIdeal := hKernelIdeal) (hReferenceIdeal := hReferenceIdeal) (hPre_finite_rows := hPre_finite_rows)
-- ==== Pre_finite_rows.lean ====
abbrev S1024x2048 : Shape := ⟨2, ![1024, 2048]⟩
abbrev S2048 : Shape := ⟨1, ![2048]⟩
abbrev S_ : Shape := ⟨0, ![]⟩

class Facts : Prop where
  bcast_S_S1024x2048 : S_.BroadcastsInDim S1024x2048 (![] : Fin 0 → Fin S1024x2048.rank)
  reducesTo_S1024x2048_S_d0_1 : S1024x2048.ReducesTo [0, 1] S_
  h_S_ : 0 < S_.numel
  bcast_S_S2048 : S_.BroadcastsInDim S2048 (![] : Fin 0 → Fin S2048.rank)
  reducesTo_S2048_S_d0 : S2048.ReducesTo [0] S_

variable [Facts]

def fn_part1 {F : FTy → Type} [FloatOps F] (main_arg3 : IVec S2048 32) (main_arg5 : IVec S2048 32) (main_v3 : IVec S_ 1) (main_v7 : IVec S_ 1) (main_v11 : IVec S_ 1) (main_v15 : IVec S_ 1) : IVec S_ 1 :=
  let main_c_6 : IVec S_ 32 := constantI S_ 32 0#32
  let main_v16 : IVec S2048 32 := broadcastInDim S2048 ![] bcast_S_S2048 main_c_6
  let main_v17 : IVec S2048 1 := cmpi .sge main_arg3 main_v16
  let main_c_7 : IVec S_ 1 := constantI S_ 1 1#1
  let main_v18 : IVec S_ 1 := (fun x v => Host.reduce IntOp.andi x v reducesTo_S2048_S_d0 h_S_) main_v17 main_c_7
  let main_c_8 : IVec S_ 32 := constantI S_ 32 0#32
  let main_v19 : IVec S2048 32 := broadcastInDim S2048 ![] bcast_S_S2048 main_c_8
  let main_v20 : IVec S2048 1 := cmpi .sge main_arg5 main_v19
  let main_c_9 : IVec S_ 1 := constantI S_ 1 1#1
  let main_v21 : IVec S_ 1 := (fun x v => Host.reduce IntOp.andi x v reducesTo_S2048_S_d0 h_S_) main_v20 main_c_9
  let main_v22 : IVec S_ 1 := andi main_v18 main_v21
  let main_v23 : IVec S_ 1 := andi main_v3 main_v7
  let main_v24 : IVec S_ 1 := andi main_v23 main_v11
  let main_v25 : IVec S_ 1 := andi main_v24 main_v15
  let main_v26 : IVec S_ 1 := andi main_v25 main_v22
  main_v26

def fn {F : FTy → Type} [FloatOps F] (main_arg0 : FVec F S1024x2048 .f32) (main_arg1 : FVec F S1024x2048 .f32) (main_arg2 : FVec F S2048 .f32) (main_arg3 : IVec S2048 32) (main_arg4 : FVec F S2048 .f32) (main_arg5 : IVec S2048 32) : IVec S_ 1 :=
  let main_v0 : FVec F S1024x2048 .f32 := Host.absf main_arg0
  let main_cst : FVec F S_ .f32 := constant S_ .f32 0x7F800000#32
  let main_v1 : FVec F S1024x2048 .f32 := broadcastInDim S1024x2048 ![] bcast_S_S1024x2048 main_cst
  let main_v2 : IVec S1024x2048 1 := cmpf .olt main_v0 main_v1
  let main_c : IVec S_ 1 := constantI S_ 1 1#1
  let main_v3 : IVec S_ 1 := (fun x v => Host.reduce IntOp.andi x v reducesTo_S1024x2048_S_d0_1 h_S_) main_v2 main_c
  let main_v4 : FVec F S1024x2048 .f32 := Host.absf main_arg1
  let main_cst_0 : FVec F S_ .f32 := constant S_ .f32 0x7F800000#32
  let main_v5 : FVec F S1024x2048 .f32 := broadcastInDim S1024x2048 ![] bcast_S_S1024x2048 main_cst_0
  let main_v6 : IVec S1024x2048 1 := cmpf .olt main_v4 main_v5
  let main_c_1 : IVec S_ 1 := constantI S_ 1 1#1
  let main_v7 : IVec S_ 1 := (fun x v => Host.reduce IntOp.andi x v reducesTo_S1024x2048_S_d0_1 h_S_) main_v6 main_c_1
  let main_v8 : FVec F S2048 .f32 := Host.absf main_arg2
  let main_cst_2 : FVec F S_ .f32 := constant S_ .f32 0x7F800000#32
  let main_v9 : FVec F S2048 .f32 := broadcastInDim S2048 ![] bcast_S_S2048 main_cst_2
  let main_v10 : IVec S2048 1 := cmpf .olt main_v8 main_v9
  let main_c_3 : IVec S_ 1 := constantI S_ 1 1#1
  let main_v11 : IVec S_ 1 := (fun x v => Host.reduce IntOp.andi x v reducesTo_S2048_S_d0 h_S_) main_v10 main_c_3
  let main_v12 : FVec F S2048 .f32 := Host.absf main_arg4
  let main_cst_4 : FVec F S_ .f32 := constant S_ .f32 0x7F800000#32
  let main_v13 : FVec F S2048 .f32 := broadcastInDim S2048 ![] bcast_S_S2048 main_cst_4
  let main_v14 : IVec S2048 1 := cmpf .olt main_v12 main_v13
  let main_c_5 : IVec S_ 1 := constantI S_ 1 1#1
  let main_v15 : IVec S_ 1 := (fun x v => Host.reduce IntOp.andi x v reducesTo_S2048_S_d0 h_S_) main_v14 main_c_5
  fn_part1 (F := F) main_arg3 main_arg5 main_v3 main_v7 main_v11 main_v15
-- ==== Kernel.lean ====
abbrev S1024x2048 : Shape := ⟨2, ![1024, 2048]⟩
abbrev S2048 : Shape := ⟨1, ![2048]⟩
abbrev S2048x1 : Shape := ⟨2, ![2048, 1]⟩
abbrev S1024x16000 : Shape := ⟨2, ![1024, 16000]⟩
abbrev S512x2048 : Shape := ⟨2, ![512, 2048]⟩
abbrev S512x640 : Shape := ⟨2, ![512, 640]⟩
abbrev S2048x640 : Shape := ⟨2, ![2048, 640]⟩
abbrev S_ : Shape := ⟨0, ![]⟩
abbrev S125 : Shape := ⟨1, ![125]⟩
abbrev S128 : Shape := ⟨1, ![128]⟩
abbrev S125x1 : Shape := ⟨2, ![125, 1]⟩
abbrev S1x125 : Shape := ⟨2, ![1, 125]⟩
abbrev S125x125 : Shape := ⟨2, ![125, 125]⟩
abbrev S128x1 : Shape := ⟨2, ![128, 1]⟩
abbrev S1x128 : Shape := ⟨2, ![1, 128]⟩
abbrev S128x128 : Shape := ⟨2, ![128, 128]⟩
abbrev S125x128 : Shape := ⟨2, ![125, 128]⟩
abbrev S250x125 : Shape := ⟨2, ![250, 125]⟩
abbrev S128x256 : Shape := ⟨2, ![128, 256]⟩
abbrev S256x256 : Shape := ⟨2, ![256, 256]⟩
abbrev S125x250 : Shape := ⟨2, ![125, 250]⟩
abbrev S16x16000 : Shape := ⟨2, ![16, 16000]⟩
abbrev S16x125x128 : Shape := ⟨3, ![16, 125, 128]⟩
abbrev S125x16x128 : Shape := ⟨3, ![125, 16, 128]⟩
abbrev S125x2048 : Shape := ⟨2, ![125, 2048]⟩
abbrev S250x2048 : Shape := ⟨2, ![250, 2048]⟩
abbrev S125x1x128 : Shape := ⟨3, ![125, 1, 128]⟩
abbrev S2000x128 : Shape := ⟨2, ![2000, 128]⟩
abbrev S2000x256 : Shape := ⟨2, ![2000, 256]⟩

abbrev nBuf : Space → Nat
  | .hbm => 83
  | .vmem => 24
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S2048, .f32⟩
  | .hbm, ⟨3, _⟩ => ⟨S2048, .i32⟩
  | .hbm, ⟨4, _⟩ => ⟨S2048, .f32⟩
  | .hbm, ⟨5, _⟩ => ⟨S2048, .i32⟩
  | .hbm, ⟨6, _⟩ => ⟨S2048x1, .i32⟩
  | .hbm, ⟨7, _⟩ => ⟨S2048x1, .f32⟩
  | .hbm, ⟨8, _⟩ => ⟨S1024x16000, .f32⟩
  | .hbm, ⟨9, _⟩ => ⟨S2048x1, .i32⟩
  | .hbm, ⟨10, _⟩ => ⟨S2048x1, .f32⟩
  | .hbm, ⟨11, _⟩ => ⟨S1024x16000, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S125, .i32⟩
  | .hbm, ⟨17, _⟩ => ⟨S128, .i32⟩
  | .hbm, ⟨18, _⟩ => ⟨S125x1, .i32⟩
  | .hbm, ⟨19, _⟩ => ⟨S1x125, .i32⟩
  | .hbm, ⟨20, _⟩ => ⟨S125x125, .i32⟩
  | .hbm, ⟨21, _⟩ => ⟨S125x125, .i32⟩
  | .hbm, ⟨22, _⟩ => ⟨S125x125, .i32⟩
  | .hbm, ⟨23, _⟩ => ⟨S_, .i32⟩
  | .hbm, ⟨24, _⟩ => ⟨S125x125, .i32⟩
  | .hbm, ⟨25, _⟩ => ⟨S125x125, .i32⟩
  | .hbm, ⟨26, _⟩ => ⟨S125x125, .f32⟩
  | .hbm, ⟨27, _⟩ => ⟨S125x125, .f32⟩
  | .hbm, ⟨28, _⟩ => ⟨S125x125, .f32⟩
  | .hbm, ⟨29, _⟩ => ⟨S_, .f32⟩
  | .hbm, ⟨30, _⟩ => ⟨S125x125, .f32⟩
  | .hbm, ⟨31, _⟩ => ⟨S125x125, .f32⟩
  | .hbm, ⟨32, _⟩ => ⟨S125x125, .f32⟩
  | .hbm, ⟨33, _⟩ => ⟨S125x125, .f32⟩
  | .hbm, ⟨34, _⟩ => ⟨S125x125, .f32⟩
  | .hbm, ⟨35, _⟩ => ⟨S128x1, .i32⟩
  | .hbm, ⟨36, _⟩ => ⟨S1x128, .i32⟩
  | .hbm, ⟨37, _⟩ => ⟨S128x128, .i32⟩
  | .hbm, ⟨38, _⟩ => ⟨S128x128, .i32⟩
  | .hbm, ⟨39, _⟩ => ⟨S128x128, .i32⟩
  | .hbm, ⟨40, _⟩ => ⟨S_, .i32⟩
  | .hbm, ⟨41, _⟩ => ⟨S128x128, .i32⟩
  | .hbm, ⟨42, _⟩ => ⟨S128x128, .i32⟩
  | .hbm, ⟨43, _⟩ => ⟨S128x128, .f32⟩
  | .hbm, ⟨44, _⟩ => ⟨S128x128, .f32⟩
  | .hbm, ⟨45, _⟩ => ⟨S128x128, .f32⟩
  | .hbm, ⟨46, _⟩ => ⟨S_, .f32⟩
  | .hbm, ⟨47, _⟩ => ⟨S128x128, .f32⟩
  | .hbm, ⟨48, _⟩ => ⟨S128x128, .f32⟩
  | .hbm, ⟨49, _⟩ => ⟨S128x128, .f32⟩
  | .hbm, ⟨50, _⟩ => ⟨S128x128, .f32⟩
  | .hbm, ⟨51, _⟩ => ⟨S128x128, .f32⟩
  | .hbm, ⟨52, _⟩ => ⟨S125x1, .i32⟩
  | .hbm, ⟨53, _⟩ => ⟨S1x128, .i32⟩
  | .hbm, ⟨54, _⟩ => ⟨S125x128, .i32⟩
  | .hbm, ⟨55, _⟩ => ⟨S125x128, .i32⟩
  | .hbm, ⟨56, _⟩ => ⟨S125x128, .i32⟩
  | .hbm, ⟨57, _⟩ => ⟨S_, .i32⟩
  | .hbm, ⟨58, _⟩ => ⟨S125x128, .i32⟩
  | .hbm, ⟨59, _⟩ => ⟨S125x128, .i32⟩
  | .hbm, ⟨60, _⟩ => ⟨S125x128, .f32⟩
  | .hbm, ⟨61, _⟩ => ⟨S125x128, .f32⟩
  | .hbm, ⟨62, _⟩ => ⟨S125x128, .f32⟩
  | .hbm, ⟨63, _⟩ => ⟨S_, .f32⟩
  | .hbm, ⟨64, _⟩ => ⟨S125x128, .f32⟩
  | .hbm, ⟨65, _⟩ => ⟨S125x128, .f32⟩
  | .hbm, ⟨66, _⟩ => ⟨S125x128, .f32⟩
  | .hbm, ⟨67, _⟩ => ⟨S125x128, .f32⟩
  | .hbm, ⟨68, _⟩ => ⟨S125x128, .f32⟩
  | .hbm, ⟨69, _⟩ => ⟨S125x125, .f32⟩
  | .hbm, ⟨70, _⟩ => ⟨S128x128, .f32⟩
  | .hbm, ⟨71, _⟩ => ⟨S250x125, .f32⟩
  | .hbm, ⟨72, _⟩ => ⟨S128x128, .f32⟩
  | .hbm, ⟨73, _⟩ => ⟨S128x256, .f32⟩
  | .hbm, ⟨74, _⟩ => ⟨S128x256, .f32⟩
  | .hbm, ⟨75, _⟩ => ⟨S256x256, .f32⟩
  | .hbm, ⟨76, _⟩ => ⟨S128x128, .f32⟩
  | .hbm, ⟨77, _⟩ => ⟨S128x256, .f32⟩
  | .hbm, ⟨78, _⟩ => ⟨S128x256, .f32⟩
  | .hbm, ⟨79, _⟩ => ⟨S256x256, .f32⟩
  | .hbm, ⟨80, _⟩ => ⟨S125x125, .f32⟩
  | .hbm, ⟨81, _⟩ => ⟨S125x250, .f32⟩
  | .hbm, ⟨82, _⟩ => ⟨S1024x16000, .f32⟩
  | .local _ .vmem, ⟨0, _⟩ => ⟨S512x2048, .f32⟩
  | .local _ .vmem, ⟨1, _⟩ => ⟨S512x2048, .f32⟩
  | .local _ .vmem, ⟨2, _⟩ => ⟨S2048x1, .i32⟩
  | .local _ .vmem, ⟨3, _⟩ => ⟨S2048x1, .f32⟩
  | .local _ .vmem, ⟨4, _⟩ => ⟨S512x640, .f32⟩
  | .local _ .vmem, ⟨5, _⟩ => ⟨S512x640, .f32⟩
  | .local _ .vmem, ⟨6, _⟩ => ⟨S512x2048, .f32⟩
  | .local _ .vmem, ⟨7, _⟩ => ⟨S512x2048, .f32⟩
  | .local _ .vmem, ⟨8, _⟩ => ⟨S2048x1, .i32⟩
  | .local _ .vmem, ⟨9, _⟩ => ⟨S2048x1, .f32⟩
  | .local _ .vmem, ⟨10, _⟩ => ⟨S512x640, .f32⟩
  | .local _ .vmem, ⟨11, _⟩ => ⟨S512x640, .f32⟩
  | .local _ .vmem, ⟨12, _⟩ => ⟨S16x16000, .f32⟩
  | .local _ .vmem, ⟨13, _⟩ => ⟨S16x16000, .f32⟩
  | .local _ .vmem, ⟨14, _⟩ => ⟨S16x16000, .f32⟩
  | .local _ .vmem, ⟨15, _⟩ => ⟨S16x16000, .f32⟩
  | .local _ .vmem, ⟨16, _⟩ => ⟨S250x125, .f32⟩
  | .local _ .vmem, ⟨17, _⟩ => ⟨S256x256, .f32⟩
  | .local _ .vmem, ⟨18, _⟩ => ⟨S256x256, .f32⟩
  | .local _ .vmem, ⟨19, _⟩ => ⟨S125x250, .f32⟩
  | .local _ .vmem, ⟨20, _⟩ => ⟨S125x128, .f32⟩
  | .local _ .vmem, ⟨21, _⟩ => ⟨S125x128, .f32⟩
  | .local _ .vmem, ⟨22, _⟩ => ⟨S16x16000, .f32⟩
  | .local _ .vmem, ⟨23, _⟩ => ⟨S16x16000, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_c_2 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_3 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_c_4 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_5 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_call0_v0 : Ref sig .tc := ⟨.hbm, 73, rfl⟩
abbrev main_call0_v1 : Ref sig .tc := ⟨.hbm, 74, rfl⟩
abbrev main_v59 : Ref sig .tc := ⟨.hbm, 75, rfl⟩
abbrev main_v60 : Ref sig .tc := ⟨.hbm, 76, rfl⟩
abbrev main_call1_v0 : Ref sig .tc := ⟨.hbm, 77, rfl⟩
abbrev main_call1_v1 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg6_0 : Ref sig .tc := ⟨.vmem, 20, rfl⟩
abbrev cc2_stg7_0 : Ref sig .tc := ⟨.vmem, 21, rfl⟩
abbrev cc2_stg8_0 : Ref sig .tc := ⟨.vmem, 22, rfl⟩
abbrev cc2_stg8_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem6_0 : DmaSem sig := 20
abbrev cc2_sem7_0 : DmaSem sig := 21
abbrev cc2_sem8_0 : DmaSem sig := 22
abbrev cc2_sem8_1 : DmaSem sig := 23

abbrev nD : Nat := 1
abbrev τ : Topo := Topo.v7x

variable {F : FTy → Type} [FloatOps F]

abbrev grid0 : Pipeline.Grid := ⟨2, ![2, 25], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![2, 25], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S2048x1 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S2048x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S512x640 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨1, ![64], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S16x16000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S16x16000 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S250x125 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S125x250 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S125x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S125x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S16x16000 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]
-- ==== KernelIdeal.lean ====
variable {F : FTy → Type} [FloatOps F] [Named F]
def κ : String → Option EReal := fun
  | "inv_n" => some ((1 / 16000 : ℝ) : EReal)
  | _ => none
-- ==== ReferenceIdeal.lean ====
abbrev S1024x2048 : Shape := ⟨2, ![1024, 2048]⟩
abbrev S2048 : Shape := ⟨1, ![2048]⟩
abbrev S1x2048 : Shape := ⟨2, ![1, 2048]⟩
abbrev S_ : Shape := ⟨0, ![]⟩
abbrev S1024x16000 : Shape := ⟨2, ![1024, 16000]⟩
abbrev S2048x1 : Shape := ⟨2, ![2048, 1]⟩
abbrev S16000 : Shape := ⟨1, ![16000]⟩
abbrev S16000x1 : Shape := ⟨2, ![16000, 1]⟩
abbrev S1x16000 : Shape := ⟨2, ![1, 16000]⟩
abbrev S16000x16000 : Shape := ⟨2, ![16000, 16000]⟩

abbrev nBuf : Space → Nat
  | .hbm => 73
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S2048, .f32⟩
  | .hbm, ⟨3, _⟩ => ⟨S2048, .i32⟩
  | .hbm, ⟨4, _⟩ => ⟨S2048, .f32⟩
  | .hbm, ⟨5, _⟩ => ⟨S2048, .i32⟩
  | .hbm, ⟨6, _⟩ => ⟨S1x2048, .f32⟩
  | .hbm, ⟨7, _⟩ => ⟨S1024x2048, .f32⟩
  | .hbm, ⟨8, _⟩ => ⟨S1024x2048, .f32⟩
  | .hbm, ⟨9, _⟩ => ⟨S_, .f32⟩
  | .hbm, ⟨10, _⟩ => ⟨S1024x16000, .f32⟩
  | .hbm, ⟨11, _⟩ => ⟨S_, .i32⟩
  | .hbm, ⟨12, _⟩ => ⟨S2048, .i32⟩
  | .hbm, ⟨13, _⟩ => ⟨S2048, .i1⟩
  | .hbm, ⟨14, _⟩ => ⟨S_, .i32⟩
  | .hbm, ⟨15, _⟩ => ⟨S2048, .i32⟩
  | .hbm, ⟨16, _⟩ => ⟨S2048, .i32⟩
  | .hbm, ⟨17, _⟩ => ⟨S2048, .i32⟩
  | .hbm, ⟨18, _⟩ => ⟨S2048x1, .i32⟩
  | .hbm, ⟨19, _⟩ => ⟨S1024x16000, .f32⟩
  | .hbm, ⟨20, _⟩ => ⟨S1x2048, .f32⟩
  | .hbm, ⟨21, _⟩ => ⟨S1024x2048, .f32⟩
  | .hbm, ⟨22, _⟩ => ⟨S1024x2048, .f32⟩
  | .hbm, ⟨23, _⟩ => ⟨S_, .f32⟩
  | .hbm, ⟨24, _⟩ => ⟨S1024x16000, .f32⟩
  | .hbm, ⟨25, _⟩ => ⟨S_, .i32⟩
  | .hbm, ⟨26, _⟩ => ⟨S2048, .i32⟩
  | .hbm, ⟨27, _⟩ => ⟨S2048, .i1⟩
  | .hbm, ⟨28, _⟩ => ⟨S_, .i32⟩
  | .hbm, ⟨29, _⟩ => ⟨S2048, .i32⟩
  | .hbm, ⟨30, _⟩ => ⟨S2048, .i32⟩
  | .hbm, ⟨31, _⟩ => ⟨S2048, .i32⟩
  | .hbm, ⟨32, _⟩ => ⟨S2048x1, .i32⟩
  | .hbm, ⟨33, _⟩ => ⟨S1024x16000, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S16000, .i32⟩
  | .hbm, ⟨39, _⟩ => ⟨S16000x1, .i32⟩
  | .hbm, ⟨40, _⟩ => ⟨S1x16000, .i32⟩
  | .hbm, ⟨41, _⟩ => ⟨S16000x16000, .i32⟩
  | .hbm, ⟨42, _⟩ => ⟨S16000x16000, .i32⟩
  | .hbm, ⟨43, _⟩ => ⟨S16000x16000, .i32⟩
  | .hbm, ⟨44, _⟩ => ⟨S_, .i32⟩
  | .hbm, ⟨45, _⟩ => ⟨S16000x16000, .i32⟩
  | .hbm, ⟨46, _⟩ => ⟨S16000x16000, .i32⟩
  | .hbm, ⟨47, _⟩ => ⟨S16000x16000, .f32⟩
  | .hbm, ⟨48, _⟩ => ⟨S16000x16000, .f32⟩
  | .hbm, ⟨49, _⟩ => ⟨S16000x16000, .f32⟩
  | .hbm, ⟨50, _⟩ => ⟨S_, .f32⟩
  | .hbm, ⟨51, _⟩ => ⟨S16000x16000, .f32⟩
  | .hbm, ⟨52, _⟩ => ⟨S16000x16000, .f32⟩
  | .hbm, ⟨53, _⟩ => ⟨S16000x16000, .f32⟩
  | .hbm, ⟨54, _⟩ => ⟨S16000x16000, .f32⟩
  | .hbm, ⟨55, _⟩ => ⟨S1024x16000, .f32⟩
  | .hbm, ⟨56, _⟩ => ⟨S1024x16000, .f32⟩
  | .hbm, ⟨57, _⟩ => ⟨S1024x16000, .f32⟩
  | .hbm, ⟨58, _⟩ => ⟨S1024x16000, .f32⟩
  | .hbm, ⟨59, _⟩ => ⟨S1024x16000, .f32⟩
  | .hbm, ⟨60, _⟩ => ⟨S1024x16000, .f32⟩
  | .hbm, ⟨61, _⟩ => ⟨S1024x16000, .f32⟩
  | .hbm, ⟨62, _⟩ => ⟨S1024x16000, .f32⟩
  | .hbm, ⟨63, _⟩ => ⟨S1024x16000, .f32⟩
  | .hbm, ⟨64, _⟩ => ⟨S1024x16000, .f32⟩
  | .hbm, ⟨65, _⟩ => ⟨S1024x16000, .f32⟩
  | .hbm, ⟨66, _⟩ => ⟨S1024x16000, .f32⟩
  | .hbm, ⟨67, _⟩ => ⟨S1024x16000, .f32⟩
  | .hbm, ⟨68, _⟩ => ⟨S1024x16000, .f32⟩
  | .hbm, ⟨69, _⟩ => ⟨S1024x16000, .f32⟩
  | .hbm, ⟨70, _⟩ => ⟨S_, .f32⟩
  | .hbm, ⟨71, _⟩ => ⟨S1024x16000, .f32⟩
  | .hbm, ⟨72, _⟩ => ⟨S1024x16000, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_7 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_8 : Ref sig .tc := ⟨.hbm, 70, rfl⟩
abbrev main_v54 : Ref sig .tc := ⟨.hbm, 71, rfl⟩
abbrev main_v55 : Ref sig .tc := ⟨.hbm, 72, rfl⟩

abbrev nD : Nat := 1
abbrev τ : Topo := Topo.v7x

variable {F : FTy → Type} [FloatOps F]
-- ==== Proof.Launch.lean ====
/- The kernel's run: besides its arguments unchanged, the result array ends holding what the third pallas_call's
   pipeline has written back (`W10` at the result buffer). -/
module

public import proofs.«01_k».proof.Proof.Gen.KernelIdeal.Frame

@[expose] public section

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Every run ends with the result array at the third pipeline's written-back contents and the arguments as they were. -/
theorem run : θ_run defs (onTc (τ := τ) (main (F := F))) ⟨m, fun _ => 0, ρ⟩ (fun r => (∀ c : Dev nD,
      r.2.mem ((c.tc : Thread nD τ).loc main_v64) = W10 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h _ c =>
      ⟨h c _ (mem_uc main_v64 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c)⟩)

end Cert.KernelIdeal.Result

end
-- ==== Proof.Sketch.lean ====
/-
  The two count sketches: what the first two regions leave in their output arrays.
-/
module

public import proofs.«01_k».proof.Proof.Gen.KernelIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Sketch
open Cert.KernelIdeal Cert.KernelIdeal.Gen

/-- The sketch of a batch of rows: entry `(b, k)` adds the signed row entries whose index is `k`. -/
def sketch (x : FVec Ideal S1024x2048 .f32) (idx : IVec S2048x1 32) (sg : FVec Ideal S2048x1 .f32) :
    FVec Ideal S1024x16000 .f32 := fun i =>
  ∑ d : Fin 2048, Scalar.select (IntOp.cmpi CmpIPredicate.eq (idx (ix2 d 0)) (BitVec.ofNat 32 (i 1).val))
    (x (ix2 (i 0) d) * sg (ix2 d 0)) (0 : EReal)

/-- Lane `j` of column block `q` is column `640 * q + j`. -/
theorem column (j q : ℕ) : IntOp.addi (BitVec.ofNat 32 j) (Scalar.muli (BitVec.ofNat 32 q) 640#32)
    = BitVec.ofNat 32 (q * 640 + j) := by
  change BitVec.ofNat 32 j + BitVec.ofNat 32 q * BitVec.ofNat 32 640 = _
  rw [← BitVec.ofNat_mul, ← BitVec.ofNat_add, Nat.add_comm]

/-- The block of rows and the block of columns of every grid point of the first region. -/
theorem idx0 : ∀ t : Fin cfg0.N, win0_0.index t = ![t.val / 25, 0] ∧ win0_1.index t = ![0, 0] ∧
    win0_2.index t = ![0, 0] ∧ win0_3.index t = ![t.val / 25, t.val % 25] ∧ (grid0.coords t 1).val = t.val % 25 :=
  (by decide +kernel : ∀ t : Fin grid0.N, _)

/-- The block of rows and the block of columns of every grid point of the second region. -/
theorem idx1 : ∀ t : Fin cfg1.N, win1_0.index t = ![t.val / 25, 0] ∧ win1_1.index t = ![0, 0] ∧
    win1_2.index t = ![0, 0] ∧ win1_3.index t = ![t.val / 25, t.val % 25] ∧ (grid1.coords t 1).val = t.val % 25 :=
  (by decide +kernel : ∀ t : Fin grid1.N, _)

variable (V : (c : Dev nD) → (b : Ref sig .tc) → Buf (Elt Ideal) ((c : Thread nD τ).loc b))

set_option maxHeartbeats 1600000 in
/-- What region 0's body stores at a block index is the sketch at the array index it sits at. -/
theorem point0 (c : Dev nD) (t : Fin cfg0.N) (y) :
    k0_pay1 (grid0.coords t) (iblk0 V c 1 t) (iblk0 V c 2 t) (iblk0 V c 0 t) y
      = sketch (V c main_arg0) (V c main_v0) (V c main_v1) (((cfg0.win 3).blk t).view.emb y) := by
  have hc : (((cfg0.win 3).blk t).view.emb y 1 : ℕ) = (t.val % 25) * 640 + (y 1).val := by
    blk_simp [idx0 t]
  pointwise [k0_pay1, sketch]
  rw [(idx0 t).2.2.2.2, column]
  simp only [hc]
  blk_point [iblk0, idx0 t]

/-- After region 0 its output array is the sketch of its operands. -/
theorem final0 (c : Dev nD) : (dat0 V c).arrAt 3 cfg0.N = sketch (V c main_arg0) (V c main_v0) (V c main_v1) := by
  refine (dat0 V c).arrAt_eq_of_covers 3 _ (by decide +kernel) fun t _ y => ?_
  blk_simp
  rw [after0_3]; frame_out
  exact point0 V c t y

set_option maxHeartbeats 1600000 in
/-- What region 1's body stores at a block index is the sketch at the array index it sits at. -/
theorem point1 (c : Dev nD) (t : Fin cfg1.N) (y) :
    k1_pay1 (grid1.coords t) (iblk1 V c 1 t) (iblk1 V c 2 t) (iblk1 V c 0 t) y
      = sketch (V c main_arg1) (V c main_v3) (V c main_v4) (((cfg1.win 3).blk t).view.emb y) := by
  have hc : (((cfg1.win 3).blk t).view.emb y 1 : ℕ) = (t.val % 25) * 640 + (y 1).val := by
    blk_simp [idx1 t]
  pointwise [k1_pay1, sketch]
  rw [(idx1 t).2.2.2.2, column]
  simp only [hc]
  blk_point [iblk1, idx1 t]

/-- After region 1 its output array is the sketch of its operands. -/
theorem final1 (c : Dev nD) : (dat1 V c).arrAt 3 cfg1.N = sketch (V c main_arg1) (V c main_v3) (V c main_v4) := by
  refine (dat1 V c).arrAt_eq_of_covers 3 _ (by decide +kernel) fun t _ y => ?_
  blk_simp
  rw [after1_3]; frame_out
  exact point1 V c t y

end Cert.KernelIdeal.Sketch
-- ==== Proof.Fourier.lean ====
/- The mathematics of the claim, over the reals and the complex numbers alone: a discrete Fourier transform of length
   16000 = 125 · 128 done in two passes, short transforms of length 125 and 128 with a twist by a power of the long
   root between them, is the transform done in one pass; the same for the way back. -/
module

public import Mathlib.Algebra.BigOperators.Fin
public import Mathlib.Analysis.SpecialFunctions.Trigonometric.Basic

@[expose] public section

noncomputable section

namespace Cert.Fourier

open Complex

/-- The angle `2π · o / m`. -/
def angle (m o : ℕ) : ℝ := 2 * Real.pi * (o : ℝ) / (m : ℝ)

/-- The `o`-th power of the root of unity `exp (-2πi / m)`, by its real and imaginary parts. -/
def root (m o : ℕ) : ℂ := ⟨Real.cos (angle m o), -Real.sin (angle m o)⟩

@[simp] theorem root_re (m o : ℕ) : (root m o).re = Real.cos (angle m o) := rfl
@[simp] theorem root_im (m o : ℕ) : (root m o).im = -Real.sin (angle m o) := rfl

/-- The root as an exponential. -/
theorem root_eq_exp (m o : ℕ) : root m o = Complex.exp (-(angle m o : ℂ) * I) := by
  apply Complex.ext
  · rw [← Complex.ofReal_neg, Complex.exp_ofReal_mul_I_re, Real.cos_neg, root_re]
  · rw [← Complex.ofReal_neg, Complex.exp_ofReal_mul_I_im, Real.sin_neg, root_im]

/-- Exponents add. -/
theorem root_add (m a b : ℕ) : root m (a + b) = root m a * root m b := by
  rw [root_eq_exp, root_eq_exp, root_eq_exp, ← Complex.exp_add]
  congr 1
  unfold angle
  push_cast
  ring

/-- A multiple of the length is exponent zero. -/
theorem root_mul_self (m : ℕ) (hm : 0 < m) (q : ℕ) : root m (m * q) = 1 := by
  have hm' : (m : ℝ) ≠ 0 := by exact_mod_cast hm.ne'
  have h : angle m (m * q) = q * (2 * Real.pi) := by unfold angle; push_cast; field_simp
  apply Complex.ext
  · rw [root_re, h, Real.cos_nat_mul_two_pi, Complex.one_re]
  · have := Real.sin_nat_mul_pi (2 * q)
    rw [root_im, h, show (q : ℝ) * (2 * Real.pi) = ((2 * q : ℕ) : ℝ) * Real.pi by push_cast; ring, this, Complex.one_im, neg_zero]

/-- The exponent counts modulo the length. -/
theorem root_mod (m : ℕ) (hm : 0 < m) (o : ℕ) : root m (o % m) = root m o := by
  conv_rhs => rw [← Nat.div_add_mod o m, root_add, root_mul_self m hm, one_mul]

/-- The cosine of a root's angle counts the exponent modulo the length. -/
theorem cos_mod (m : ℕ) (hm : 0 < m) (o : ℕ) : Real.cos (angle m (o % m)) = Real.cos (angle m o) :=
  show (root m (o % m)).re = (root m o).re from congrArg Complex.re (root_mod m hm o)
/-- The sine of a root's angle counts the exponent modulo the length. -/
theorem sin_mod (m : ℕ) (hm : 0 < m) (o : ℕ) : Real.sin (angle m (o % m)) = Real.sin (angle m o) :=
  neg_injective (show (root m (o % m)).im = (root m o).im from congrArg Complex.im (root_mod m hm o))

/-- A root of a divisor's length is a power of the long root. -/
theorem root_scale (m q o : ℕ) (hq : 0 < q) : root m o = root (m * q) (q * o) := by
  have hq' : (q : ℝ) ≠ 0 := by exact_mod_cast hq.ne'
  have h : angle m o = angle (m * q) (q * o) := by
    unfold angle; push_cast
    rcases Nat.eq_zero_or_pos m with rfl | hm
    · simp
    · have hm' : (m : ℝ) ≠ 0 := by exact_mod_cast hm.ne'
      field_simp
  apply Complex.ext
  · rw [root_re, root_re, h]
  · rw [root_im, root_im, h]

/-- The three factors of one term of the two-pass transform make the one factor of the one-pass transform. -/
theorem root_split (k2 k1 n2 n1 : ℕ) :
    root 125 (k2 * n2) * root 16000 (k2 * n1) * root 128 (n1 * k1) = root 16000 ((n2 * 128 + n1) * (k2 + 125 * k1)) := by
  rw [root_scale 125 128 _ (by norm_num), root_scale 128 125 _ (by norm_num)]
  norm_num only
  rw [← root_add, ← root_add, show (n2 * 128 + n1) * (k2 + 125 * k1)
    = (128 * (k2 * n2) + k2 * n1 + 125 * (n1 * k1)) + 16000 * (n2 * k1) by ring, root_add 16000 _ (16000 * _),
    root_mul_self 16000 (by norm_num), mul_one]

/-! ## The two passes -/

/-- First pass forward: the short transforms of length 125 over the stride-128 subsequences. -/
def first (x : Fin 125 → Fin 128 → ℝ) (k2 : Fin 125) (n1 : Fin 128) : ℂ :=
  ∑ n2 : Fin 125, root 125 (k2 * n2) * (x n2 n1 : ℂ)

/-- The twist. -/
def twist (x : Fin 125 → Fin 128 → ℝ) (k2 : Fin 125) (n1 : Fin 128) : ℂ := first x k2 n1 * root 16000 (k2 * n1)

/-- Second pass forward: the short transforms of length 128. -/
def spec (x : Fin 125 → Fin 128 → ℝ) (k2 : Fin 125) (k1 : Fin 128) : ℂ :=
  ∑ n1 : Fin 128, twist x k2 n1 * root 128 (n1 * k1)

/-- First pass back. -/
def back (z : Fin 125 → Fin 128 → ℂ) (k2 : Fin 125) (n1 : Fin 128) : ℂ :=
  ∑ k1 : Fin 128, z k2 k1 * (starRingEnd ℂ) (root 128 (k1 * n1))

/-- The twist back. -/
def untwist (z : Fin 125 → Fin 128 → ℂ) (k2 : Fin 125) (n1 : Fin 128) : ℂ :=
  back z k2 n1 * (starRingEnd ℂ) (root 16000 (k2 * n1))

/-- Second pass back (unscaled). -/
def out (z : Fin 125 → Fin 128 → ℂ) (n2 : Fin 125) (n1 : Fin 128) : ℂ :=
  ∑ k2 : Fin 125, (starRingEnd ℂ) (root 125 (n2 * k2)) * untwist z k2 n1

/-- Position `n2 · 128 + n1` of a sequence of length 16000. -/
def time (n2 : Fin 125) (n1 : Fin 128) : Fin 16000 := ⟨n2.val * 128 + n1.val, by omega⟩

/-- Frequency `k2 + 125 · k1` of a spectrum of length 16000. -/
def freq (k2 : Fin 125) (k1 : Fin 128) : Fin 16000 := ⟨k2.val + 125 * k1.val, by omega⟩

/-- Every position is met once. -/
def timeEquiv : Fin 125 × Fin 128 ≃ Fin 16000 where
  toFun p := time p.1 p.2
  invFun n := (⟨n.val / 128, by omega⟩, ⟨n.val % 128, by omega⟩)
  left_inv p := by
    rcases p with ⟨a, b⟩
    simp only [time, Prod.mk.injEq, Fin.ext_iff]
    constructor <;> omega
  right_inv n := by simp only [time, Fin.ext_iff]; omega

/-- Every frequency is met once. -/
def freqEquiv : Fin 125 × Fin 128 ≃ Fin 16000 where
  toFun p := freq p.1 p.2
  invFun n := (⟨n.val % 125, by omega⟩, ⟨n.val / 125, by omega⟩)
  left_inv p := by
    rcases p with ⟨a, b⟩
    simp only [freq, Prod.mk.injEq, Fin.ext_iff]
    constructor <;> omega
  right_inv n := by simp only [freq, Fin.ext_iff]; omega

/-- A sum over all positions, taken in the order of the first pass. -/
theorem sum_time {M : Type} [AddCommMonoid M] (f : Fin 16000 → M) : ∑ n, f n = ∑ n1 : Fin 128, ∑ n2 : Fin 125, f (time n2 n1) := by
  rw [← timeEquiv.sum_comp f, Fintype.sum_prod_type, Finset.sum_comm]
  rfl

/-- A sum over all frequencies, taken in the order of the second pass. -/
theorem sum_freq {M : Type} [AddCommMonoid M] (f : Fin 16000 → M) : ∑ n, f n = ∑ k2 : Fin 125, ∑ k1 : Fin 128, f (freq k2 k1) := by
  rw [← freqEquiv.sum_comp f, Fintype.sum_prod_type]
  rfl

/-- The transform in one pass. -/
def dft (x : Fin 16000 → ℝ) (k : Fin 16000) : ℂ := ∑ n : Fin 16000, (x n : ℂ) * root 16000 (n * k)

/-- The way back in one pass (unscaled). -/
def idft (z : Fin 16000 → ℂ) (n : Fin 16000) : ℂ := ∑ k : Fin 16000, z k * (starRingEnd ℂ) (root 16000 (k * n))

/-- Forward: two passes make the one. -/
theorem spec_eq_dft (x : Fin 16000 → ℝ) (k2 : Fin 125) (k1 : Fin 128) :
    spec (fun n2 n1 => x (time n2 n1)) k2 k1 = dft x (freq k2 k1) := by
  unfold dft spec twist first
  rw [sum_time]
  refine Finset.sum_congr rfl fun n1 _ => ?_
  rw [Finset.sum_mul, Finset.sum_mul]
  refine Finset.sum_congr rfl fun n2 _ => ?_
  have h := root_split k2 k1 n2 n1
  rw [show ((time n2 n1 : Fin 16000) : ℕ) * (freq k2 k1 : Fin 16000) = (n2 * 128 + n1) * (k2 + 125 * k1) from rfl, ← h]
  ring

/-- Back: two passes make the one. -/
theorem out_eq_idft (z : Fin 16000 → ℂ) (n2 : Fin 125) (n1 : Fin 128) :
    out (fun k2 k1 => z (freq k2 k1)) n2 n1 = idft z (time n2 n1) := by
  unfold idft out untwist back
  rw [sum_freq]
  refine Finset.sum_congr rfl fun k2 _ => ?_
  rw [Finset.sum_mul, Finset.mul_sum]
  refine Finset.sum_congr rfl fun k1 _ => ?_
  have h := congrArg (starRingEnd ℂ) (root_split k2 k1 n2 n1)
  rw [map_mul, map_mul] at h
  rw [show ((freq k2 k1 : Fin 16000) : ℕ) * (time n2 n1 : Fin 16000) = (n2 * 128 + n1) * (k2 + 125 * k1) from Nat.mul_comm _ _,
    ← h, Nat.mul_comm (n2 : ℕ) k2, Nat.mul_comm (k1 : ℕ) n1]
  ring

/-- Circular convolution through the spectrum in one pass each way: what both programs compute of two rows. -/
def conv (x y : Fin 16000 → ℝ) (n : Fin 16000) : ℝ := (idft (fun k => dft x k * dft y k) n).re / 16000

/-- The same in two passes each way. -/
theorem conv_eq (x y : Fin 16000 → ℝ) (n2 : Fin 125) (n1 : Fin 128) :
    (out (fun k2 k1 => spec (fun a b => x (time a b)) k2 k1 * spec (fun a b => y (time a b)) k2 k1) n2 n1).re * (1 / 16000)
      = conv x y (time n2 n1) := by
  simp only [spec_eq_dft]
  rw [out_eq_idft (fun k => dft x k * dft y k), conv, mul_one_div]

end Cert.Fourier

end
-- ==== Proof.Scalars.lean ====
/- Extended reals that are real: sums and products of such, the programs' float constants, and the angle both programs
   compute for an entry of a table of roots of unity. -/
module

public import proofs.«01_k».proof.Proof.Fourier
public import Idealize.ShloMosaic.PureOps.Ideal
public import Idealize.ShloMosaic.Lib.IdealHost

@[expose] public section

noncomputable section

namespace Cert.Scalars

open Idealize.ShloMosaic Cert.Fourier

/-- A finite sum of reals, read in the extended reals. -/
theorem coe_sum {ι : Type} (s : Finset ι) (f : ι → ℝ) : ((∑ i ∈ s, f i : ℝ) : EReal) = ∑ i ∈ s, (f i : EReal) :=
  map_sum (⟨⟨fun r : ℝ => (r : EReal), EReal.coe_zero⟩, EReal.coe_add⟩ : ℝ →+ EReal) f s

/-- A finite sum of products of reals. -/
theorem sum_mul_coe {ι : Type} (s : Finset ι) (f g : ι → ℝ) :
    ∑ i ∈ s, (f i : EReal) * (g i : EReal) = ((∑ i ∈ s, f i * g i : ℝ) : EReal) := by
  rw [coe_sum]
  exact Finset.sum_congr rfl fun i _ => (EReal.coe_mul _ _).symm

/-- The float word of 8 is the real 8. -/
theorem ofBits_8 : Ideal.ofBits .f32 0x41000000#32 = ((8 : ℝ) : EReal) := by
  simp [Ideal.ofBits, Ideal.ieee, -EReal.coe_mul]; norm_num
/-- The float word of 125 is the real 125. -/
theorem ofBits_125 : Ideal.ofBits .f32 0x42FA0000#32 = ((125 : ℝ) : EReal) := by
  simp [Ideal.ofBits, Ideal.ieee, -EReal.coe_mul]; norm_num
/-- The float word of 128 is the real 128. -/
theorem ofBits_128 : Ideal.ofBits .f32 0x43000000#32 = ((128 : ℝ) : EReal) := by
  simp [Ideal.ofBits, Ideal.ieee, -EReal.coe_mul]; norm_num
/-- The float word of 16000 is the real 16000. -/
theorem ofBits_16000 : Ideal.ofBits .f32 0x467A0000#32 = ((16000 : ℝ) : EReal) := by
  simp [Ideal.ofBits, Ideal.ieee, -EReal.coe_mul]; norm_num
/-- The float word of infinity is `⊤`. -/
theorem ofBits_inf : Ideal.ofBits .f32 0x7F800000#32 = ⊤ := by
  simp [Ideal.ofBits, Ideal.ieee]

/-- Eight times the arc tangent of one is `2π`. -/
theorem two_pi : ((8 : ℝ) : EReal) * Ideal.atan (1 : EReal) = ((2 * Real.pi : ℝ) : EReal) := by
  rw [show (1 : EReal) = ((1 : ℝ) : EReal) from rfl, show Ideal.atan ((1 : ℝ) : EReal) = ((Real.arctan 1 : ℝ) : EReal) from rfl,
    Real.arctan_one, ← EReal.coe_mul]
  congr 1; ring

/-- A small natural number as a 32-bit word, read signed. -/
theorem toInt_ofNat_small (n : ℕ) (h : n < 2 ^ 31) : (BitVec.ofNat 32 n).toInt = (n : ℤ) := by
  rw [BitVec.toInt_eq_toNat_of_lt] <;> rw [BitVec.toNat_ofNat, Nat.mod_eq_of_lt (by omega)]
  omega

/-- The product of two small coordinates as 32-bit words, reduced modulo `m`, read signed. -/
theorem rem_toInt (a b m : ℕ) (h : a * b < 2 ^ 31) (hm : m < 2 ^ 31) :
    ((BitVec.ofNat 32 a * BitVec.ofNat 32 b).srem (BitVec.ofNat 32 m)).toInt = ((a * b % m : ℕ) : ℤ) := by
  have h1 : (BitVec.ofNat 32 a * BitVec.ofNat 32 b).toInt = ((a * b : ℕ) : ℤ) := by
    rw [← BitVec.ofNat_mul, toInt_ofNat_small _ h]
  have h2 : (BitVec.ofNat 32 m).toInt = (m : ℤ) := by
    exact toInt_ofNat_small m hm
  rw [BitVec.toInt_srem, h1, h2]
  rw [Int.tmod_eq_emod_of_nonneg (by positivity)]
  exact_mod_cast rfl

/-- The angle of a table's entry: the reduced product times `2π` over `m`. -/
theorem angle_coe (o m : ℕ) (hm : m ≠ 0) :
    Ideal.div ((((o : ℤ) : ℝ) : EReal) * ((2 * Real.pi : ℝ) : EReal)) ((m : ℝ) : EReal) = ((angle m o : ℝ) : EReal) := by
  have hm' : (m : ℝ) ≠ 0 := by exact_mod_cast hm
  rw [Ideal.div_coe hm', ← EReal.coe_mul, ← EReal.coe_mul]
  congr 1
  unfold angle
  push_cast
  ring

/-- The ideal cosine of a real is the real cosine. -/
theorem cos_coe (r : ℝ) : Ideal.cos (r : EReal) = ((Real.cos r : ℝ) : EReal) := rfl
/-- The ideal sine of a real is the real sine. -/
theorem sin_coe (r : ℝ) : Ideal.sin (r : EReal) = ((Real.sin r : ℝ) : EReal) := rfl

end Cert.Scalars

end
-- ==== Proof.Stages.lean ====
/- The third kernel's body on one block of sixteen rows, read at an entry: each of its matrix products is a sum of the
   real or imaginary parts of complex products, so that over real inputs the block it stores is the scaled two-pass
   convolution of `Fourier`. -/
module

public import proofs.«01_k».proof.Proof.Scalars
public import proofs.«01_k».proof.Proof.Gen.KernelIdeal.Skeleton
public import Idealize.ShloMosaic.Lib.Pointwise

@[expose] public section

set_option maxRecDepth 16384

noncomputable section

namespace Cert.KernelIdeal.Stages

open Cert.KernelIdeal Cert.KernelIdeal.Gen
open Idealize.ShloMosaic Idealize.ShloMosaic.TcCoe Idealize.SL.Sem Cert.Fourier

/-! ## Index bounds -/

/-- A column of the left half, of 256. -/
theorem lo (a : Fin 128) : (a : ℕ) < 256 := by omega
/-- A column of the right half, of 256. -/
theorem hi (a : Fin 128) : 128 + (a : ℕ) < 256 := by omega
/-- A row of the upper half, of 250. -/
theorem lo5 (a : Fin 125) : (a : ℕ) < 250 := by omega
/-- A row of the lower half, of 250. -/
theorem hi5 (a : Fin 125) : 125 + (a : ℕ) < 250 := by omega
/-- The batch row that a row of the stacked array belongs to. -/
theorem mod16 (r : Fin 2000) : (r : ℕ) % 16 < 16 := by omega
/-- The short frequency that a row of the stacked array belongs to. -/
theorem div16 (r : Fin 2000) : (r : ℕ) / 16 < 125 := by omega
/-- A position's place in its stride. -/
theorem mod128 (n : Fin 16000) : (n : ℕ) % 128 < 128 := by omega
/-- A position's stride. -/
theorem div128 (n : Fin 16000) : (n : ℕ) / 128 < 125 := by omega
/-- The row of the stacked array for a short frequency and a batch row. -/
theorem row (k2 : Fin 125) (b : Fin 16) : (k2 : ℕ) * 16 + (b : ℕ) < 2000 := by omega

/-! ## The body, cut into named pieces -/

/-- The twisted real and imaginary parts side by side. -/
def twisted (vr vi : FVec Ideal S125x16x128 .f32) (tr ti : FVec Ideal S125x128 .f32) : FVec Ideal S2000x256 .f32 :=
  have r3 : FVec Ideal S125x16x128 .f32 := broadcastTo S125x16x128 (shapeCast S125x1x128 tr shapeCasts_S125x128_S125x1x128 : FVec Ideal S125x1x128 .f32) broadcasts_S125x1x128_S125x16x128
  have i3 : FVec Ideal S125x16x128 .f32 := broadcastTo S125x16x128 (shapeCast S125x1x128 ti shapeCasts_S125x128_S125x1x128 : FVec Ideal S125x1x128 .f32) broadcasts_S125x1x128_S125x16x128
  concatenate S2000x256 1
    [⟨S2000x128, shapeCast S2000x128 (subf (mulf vr r3) (mulf vi i3) : FVec Ideal S125x16x128 .f32) shapeCasts_S125x16x128_S2000x128⟩,
     ⟨S2000x128, shapeCast S2000x128 (addf (mulf vr i3) (mulf vi r3) : FVec Ideal S125x16x128 .f32) shapeCasts_S125x16x128_S2000x128⟩]
    concatenates_S2000x128_S2000x128_S2000x256_d1

/-- Second pass forward: the twisted parts times the block matrix of length-128 roots. -/
def second (vr vi : FVec Ideal S125x16x128 .f32) (tr ti : FVec Ideal S125x128 .f32) (f : FVec Ideal S256x256 .f32) : FVec Ideal S2000x256 .f32 :=
  matmul dot_S2000x256_S256x256_S2000x256_1_0_0_1_n_n (some .fp32) (twisted vr vi tr ti) f (constant S2000x256 .f32 0x00000000#32)

/-- The complex product of two spectra held as real and imaginary halves. -/
def product (a b : FVec Ideal S2000x256 .f32) : FVec Ideal S2000x256 .f32 :=
  have ar : FVec Ideal S2000x128 .f32 := extractStridedSlice S2000x128 ![0, 0] a slices_S2000x256_o0_0_S2000x128
  have ai : FVec Ideal S2000x128 .f32 := extractStridedSlice S2000x128 ![0, 128] a slices_S2000x256_o0_128_S2000x128
  have br : FVec Ideal S2000x128 .f32 := extractStridedSlice S2000x128 ![0, 0] b slices_S2000x256_o0_0_S2000x128
  have bi : FVec Ideal S2000x128 .f32 := extractStridedSlice S2000x128 ![0, 128] b slices_S2000x256_o0_128_S2000x128
  concatenate S2000x256 1
    [⟨S2000x128, (subf (mulf ar br) (mulf ai bi) : FVec Ideal S2000x128 .f32)⟩, ⟨S2000x128, (addf (mulf ar bi) (mulf ai br) : FVec Ideal S2000x128 .f32)⟩]
    concatenates_S2000x128_S2000x128_S2000x256_d1

/-- First pass back. -/
def third (a b : FVec Ideal S2000x256 .f32) (g : FVec Ideal S256x256 .f32) : FVec Ideal S2000x256 .f32 :=
  matmul dot_S2000x256_S256x256_S2000x256_1_0_0_1_n_n (some .fp32) (product a b) g (constant S2000x256 .f32 0x00000000#32)

/-- The twist undone, real parts over imaginary parts. -/
def untwisted (p : FVec Ideal S2000x256 .f32) (tr ti : FVec Ideal S125x128 .f32) : FVec Ideal S250x2048 .f32 :=
  have pr : FVec Ideal S125x16x128 .f32 := shapeCast S125x16x128 (extractStridedSlice S2000x128 ![0, 0] p slices_S2000x256_o0_0_S2000x128 : FVec Ideal S2000x128 .f32) shapeCasts_S2000x128_S125x16x128
  have pi : FVec Ideal S125x16x128 .f32 := shapeCast S125x16x128 (extractStridedSlice S2000x128 ![0, 128] p slices_S2000x256_o0_128_S2000x128 : FVec Ideal S2000x128 .f32) shapeCasts_S2000x128_S125x16x128
  have r3 : FVec Ideal S125x16x128 .f32 := broadcastTo S125x16x128 (shapeCast S125x1x128 tr shapeCasts_S125x128_S125x1x128 : FVec Ideal S125x1x128 .f32) broadcasts_S125x1x128_S125x16x128
  have i3 : FVec Ideal S125x16x128 .f32 := broadcastTo S125x16x128 (shapeCast S125x1x128 ti shapeCasts_S125x128_S125x1x128 : FVec Ideal S125x1x128 .f32) broadcasts_S125x1x128_S125x16x128
  concatenate S250x2048 0
    [⟨S125x2048, shapeCast S125x2048 (addf (mulf pr r3) (mulf pi i3) : FVec Ideal S125x16x128 .f32) shapeCasts_S125x16x128_S125x2048⟩,
     ⟨S125x2048, shapeCast S125x2048 (subf (mulf pi r3) (mulf pr i3) : FVec Ideal S125x16x128 .f32) shapeCasts_S125x16x128_S125x2048⟩]
    concatenates_S125x2048_S125x2048_S250x2048_d0

/-- Second pass back, its real part only. -/
def fourth (p : FVec Ideal S2000x256 .f32) (tr ti : FVec Ideal S125x128 .f32) (g : FVec Ideal S125x250 .f32) : FVec Ideal S125x2048 .f32 :=
  matmul dot_S125x250_S250x2048_S125x2048_1_0_0_1_n_n (some .fp32) g (untwisted p tr ti) (constant S125x2048 .f32 0x00000000#32)

/-- The forward half of the body is the first pass, then the second. -/
theorem pay6_eq (v0 : Vec Ideal S250x125 .f32) (v2 : Vec Ideal S256x256 .f32) (v4 v6 : Vec Ideal S125x128 .f32) (v8 : Vec Ideal S16x16000 .f32) :
    k2_pay6 v0 v2 v4 v6 v8 = second (k2_pay8 v0 v8) (k2_pay9 v0 v8) (k2_pay4 v4) (k2_pay5 v6) (k2_pay3 v2) := rfl

/-- The rest of the body is the second row block's second pass and the way back. -/
theorem pay10_eq (v3 : FVec Ideal S256x256 .f32) (v5 v7 : FVec Ideal S125x128 .f32) (v33 : FVec Ideal S2000x256 .f32)
    (v41 v43 : FVec Ideal S125x16x128 .f32) (v71 : Vec Ideal S256x256 .f32) (v93 : Vec Ideal S125x250 .f32) :
    k2_pay10 v3 v5 v7 v33 v41 v43 v71 v93
      = fourth (third v33 (second v41 v43 v5 v7 v3) (shapeCast S256x256 v71 shapeCasts_S256x256_S256x256)) v5 v7
          (shapeCast S125x250 v93 shapeCasts_S125x250_S125x250) := rfl

/-! ## The pieces at an entry, over real inputs -/

/-- First pass, real part. -/
theorem first_re (f : Vec Ideal S250x125 .f32) (v : Vec Ideal S16x16000 .f32) (x : Fin 16 → Fin 16000 → ℝ)
    (hv : ∀ b n, v (ix2 b n) = ((x b n : ℝ) : EReal))
    (hf : ∀ a b : Fin 125, f (ix2 (⟨a, lo5 a⟩ : Fin 250) b) = (((root 125 (a * b)).re : ℝ) : EReal))
    (k2 : Fin 125) (b : Fin 16) (n1 : Fin 128) :
    k2_pay8 (F := Ideal) f v (ix3 k2 b n1) = (((first (fun n2 n1 => x b (time n2 n1)) k2 n1).re : ℝ) : EReal) := by
  pointwise [k2_pay8, k2_pay7, k2_pay2]
  simp only [hf, hv, Scalars.sum_mul_coe]
  congr 1
  rw [first, Complex.re_sum]
  exact Finset.sum_congr rfl fun n2 _ => (Complex.re_mul_ofReal _ _).symm

/-- First pass, imaginary part. -/
theorem first_im (f : Vec Ideal S250x125 .f32) (v : Vec Ideal S16x16000 .f32) (x : Fin 16 → Fin 16000 → ℝ)
    (hv : ∀ b n, v (ix2 b n) = ((x b n : ℝ) : EReal))
    (hf : ∀ a b : Fin 125, f (ix2 (⟨125 + a, hi5 a⟩ : Fin 250) b) = (((root 125 (a * b)).im : ℝ) : EReal))
    (k2 : Fin 125) (b : Fin 16) (n1 : Fin 128) :
    k2_pay9 (F := Ideal) f v (ix3 k2 b n1) = (((first (fun n2 n1 => x b (time n2 n1)) k2 n1).im : ℝ) : EReal) := by
  pointwise [k2_pay9, k2_pay7, k2_pay2]
  simp only [hf, hv, Scalars.sum_mul_coe]
  congr 1
  rw [first, Complex.im_sum]
  exact Finset.sum_congr rfl fun n2 _ => (Complex.im_mul_ofReal _ _).symm

section Second
variable (vr vi : FVec Ideal S125x16x128 .f32) (tr ti : FVec Ideal S125x128 .f32) (f : FVec Ideal S256x256 .f32)
  (u : Fin 16 → Fin 125 → Fin 128 → ℂ) (t : Fin 125 → Fin 128 → ℂ) (w : Fin 128 → Fin 128 → ℂ)
  (hvr : ∀ k2 b n1, vr (ix3 k2 b n1) = (((u b k2 n1).re : ℝ) : EReal))
  (hvi : ∀ k2 b n1, vi (ix3 k2 b n1) = (((u b k2 n1).im : ℝ) : EReal))
  (htr : ∀ k2 n1, tr (ix2 k2 n1) = (((t k2 n1).re : ℝ) : EReal))
  (hti : ∀ k2 n1, ti (ix2 k2 n1) = (((t k2 n1).im : ℝ) : EReal))
  (h00 : ∀ a b : Fin 128, f (ix2 (⟨a, lo a⟩ : Fin 256) (⟨b, lo b⟩ : Fin 256)) = (((w a b).re : ℝ) : EReal))
  (h01 : ∀ a b : Fin 128, f (ix2 (⟨a, lo a⟩ : Fin 256) (⟨128 + b, hi b⟩ : Fin 256)) = (((w a b).im : ℝ) : EReal))
  (h10 : ∀ a b : Fin 128, f (ix2 (⟨128 + a, hi a⟩ : Fin 256) (⟨b, lo b⟩ : Fin 256)) = ((-(w a b).im : ℝ) : EReal))
  (h11 : ∀ a b : Fin 128, f (ix2 (⟨128 + a, hi a⟩ : Fin 256) (⟨128 + b, hi b⟩ : Fin 256)) = (((w a b).re : ℝ) : EReal))
include hvr hvi htr hti

include h00 h10 in
/-- Second pass, real part. -/
theorem second_re (r : Fin 2000) (k1 : Fin 128) :
    second vr vi tr ti f (ix2 r (⟨k1, lo k1⟩ : Fin 256))
      = (((∑ n1, u ⟨r % 16, mod16 r⟩ ⟨r / 16, div16 r⟩ n1 * t ⟨r / 16, div16 r⟩ n1 * w n1 k1).re : ℝ) : EReal) := by
  pointwise [second, twisted]
  simp only [hvr, hvi, htr, hti, h00, h10, ← EReal.coe_mul, ← EReal.coe_sub, ← EReal.coe_add, ← Scalars.coe_sum]
  congr 1
  rw [Complex.re_sum, ← Finset.sum_add_distrib]
  refine Finset.sum_congr rfl fun n1 _ => ?_
  simp only [Complex.mul_re, Complex.mul_im]
  ring

include h01 h11 in
/-- Second pass, imaginary part. -/
theorem second_im (r : Fin 2000) (k1 : Fin 128) :
    second vr vi tr ti f (ix2 r (⟨128 + k1, hi k1⟩ : Fin 256))
      = (((∑ n1, u ⟨r % 16, mod16 r⟩ ⟨r / 16, div16 r⟩ n1 * t ⟨r / 16, div16 r⟩ n1 * w n1 k1).im : ℝ) : EReal) := by
  pointwise [second, twisted]
  simp only [hvr, hvi, htr, hti, h01, h11, ← EReal.coe_mul, ← EReal.coe_sub, ← EReal.coe_add, ← Scalars.coe_sum]
  congr 1
  rw [Complex.im_sum, ← Finset.sum_add_distrib]
  refine Finset.sum_congr rfl fun n1 _ => ?_
  simp only [Complex.mul_re, Complex.mul_im]
end Second

section Third
variable (a b : FVec Ideal S2000x256 .f32) (g : FVec Ideal S256x256 .f32)
  (X Y : Fin 2000 → Fin 128 → ℂ) (w : Fin 128 → Fin 128 → ℂ)
  (har : ∀ (r : Fin 2000) (k1 : Fin 128), a (ix2 r (⟨k1, lo k1⟩ : Fin 256)) = (((X r k1).re : ℝ) : EReal))
  (hai : ∀ (r : Fin 2000) (k1 : Fin 128), a (ix2 r (⟨128 + k1, hi k1⟩ : Fin 256)) = (((X r k1).im : ℝ) : EReal))
  (hbr : ∀ (r : Fin 2000) (k1 : Fin 128), b (ix2 r (⟨k1, lo k1⟩ : Fin 256)) = (((Y r k1).re : ℝ) : EReal))
  (hbi : ∀ (r : Fin 2000) (k1 : Fin 128), b (ix2 r (⟨128 + k1, hi k1⟩ : Fin 256)) = (((Y r k1).im : ℝ) : EReal))
  (h00 : ∀ a b : Fin 128, g (ix2 (⟨a, lo a⟩ : Fin 256) (⟨b, lo b⟩ : Fin 256)) = (((w a b).re : ℝ) : EReal))
  (h01 : ∀ a b : Fin 128, g (ix2 (⟨a, lo a⟩ : Fin 256) (⟨128 + b, hi b⟩ : Fin 256)) = ((-(w a b).im : ℝ) : EReal))
  (h10 : ∀ a b : Fin 128, g (ix2 (⟨128 + a, hi a⟩ : Fin 256) (⟨b, lo b⟩ : Fin 256)) = (((w a b).im : ℝ) : EReal))
  (h11 : ∀ a b : Fin 128, g (ix2 (⟨128 + a, hi a⟩ : Fin 256) (⟨128 + b, hi b⟩ : Fin 256)) = (((w a b).re : ℝ) : EReal))
include har hai hbr hbi

include h00 h10 in
/-- First pass back, real part. -/
theorem third_re (r : Fin 2000) (n1 : Fin 128) :
    third a b g (ix2 r (⟨n1, lo n1⟩ : Fin 256)) = (((∑ k1, (X r k1 * Y r k1) * (starRingEnd ℂ) (w k1 n1)).re : ℝ) : EReal) := by
  pointwise [third, product]
  simp only [har, hai, hbr, hbi, h00, h10, ← EReal.coe_mul, ← EReal.coe_sub, ← EReal.coe_add, ← Scalars.coe_sum]
  congr 1
  rw [Complex.re_sum, ← Finset.sum_add_distrib]
  refine Finset.sum_congr rfl fun n1 _ => ?_
  simp only [Complex.mul_re, Complex.mul_im, Complex.conj_re, Complex.conj_im]
  ring

include h01 h11 in
/-- First pass back, imaginary part. -/
theorem third_im (r : Fin 2000) (n1 : Fin 128) :
    third a b g (ix2 r (⟨128 + n1, hi n1⟩ : Fin 256)) = (((∑ k1, (X r k1 * Y r k1) * (starRingEnd ℂ) (w k1 n1)).im : ℝ) : EReal) := by
  pointwise [third, product]
  simp only [har, hai, hbr, hbi, h01, h11, ← EReal.coe_mul, ← EReal.coe_sub, ← EReal.coe_add, ← Scalars.coe_sum]
  congr 1
  rw [Complex.im_sum, ← Finset.sum_add_distrib]
  refine Finset.sum_congr rfl fun n1 _ => ?_
  simp only [Complex.mul_re, Complex.mul_im, Complex.conj_re, Complex.conj_im]
end Third

section Fourth
variable (p : FVec Ideal S2000x256 .f32) (tr ti : FVec Ideal S125x128 .f32) (g : FVec Ideal S125x250 .f32)
  (P : Fin 2000 → Fin 128 → ℂ) (t : Fin 125 → Fin 128 → ℂ) (w : Fin 125 → Fin 125 → ℂ)
  (hpr : ∀ (r : Fin 2000) (n1 : Fin 128), p (ix2 r (⟨n1, lo n1⟩ : Fin 256)) = (((P r n1).re : ℝ) : EReal))
  (hpi : ∀ (r : Fin 2000) (n1 : Fin 128), p (ix2 r (⟨128 + n1, hi n1⟩ : Fin 256)) = (((P r n1).im : ℝ) : EReal))
  (htr : ∀ k2 n1, tr (ix2 k2 n1) = (((t k2 n1).re : ℝ) : EReal))
  (hti : ∀ k2 n1, ti (ix2 k2 n1) = (((t k2 n1).im : ℝ) : EReal))
  (hgr : ∀ a b : Fin 125, g (ix2 a (⟨b, lo5 b⟩ : Fin 250)) = (((w a b).re : ℝ) : EReal))
  (hgi : ∀ a b : Fin 125, g (ix2 a (⟨125 + b, hi5 b⟩ : Fin 250)) = (((w a b).im : ℝ) : EReal))
include hpr hpi htr hti hgr hgi

/-- Second pass back, scaled, laid out as rows: the block the body stores. -/
theorem fourth_apply (s : ℝ) (b : Fin 16) (n : Fin 16000) :
    k2_pay1 (F := Ideal) (fourth p tr ti g) ((s : ℝ) : EReal) (ix2 b n)
      = (((∑ k2 : Fin 125, (starRingEnd ℂ) (w ⟨n / 128, div128 n⟩ k2)
            * (P ⟨k2 * 16 + b, row k2 b⟩ ⟨n % 128, mod128 n⟩ * (starRingEnd ℂ) (t k2 ⟨n % 128, mod128 n⟩))).re * s : ℝ) : EReal) := by
  pointwise [k2_pay1, fourth, untwisted]
  have e : ((b : ℕ) * 128 + (n : ℕ) % 128) % 128 = (n : ℕ) % 128 := by omega
  have hr := fun r => hpr r ⟨n % 128, mod128 n⟩
  have hm := fun r => hpi r ⟨n % 128, mod128 n⟩
  simp only [e, hr, hm, htr, hti, hgr, hgi, ← EReal.coe_mul, ← EReal.coe_sub, ← EReal.coe_add, ← Scalars.coe_sum]
  refine congrArg (fun r : ℝ => (r : EReal)) (congrArg (· * s) ?_)
  rw [Complex.re_sum, ← Finset.sum_add_distrib]
  refine Finset.sum_congr rfl fun n1 _ => ?_
  simp only [Complex.mul_re, Complex.mul_im, Complex.conj_re, Complex.conj_im]
  ring
end Fourth

end Cert.KernelIdeal.Stages
end
-- ==== Proof.Tables.lean ====
/- What the host code before the third pallas_call leaves in the six tables it hands over: cosines and sines of the
   angles `2π · (a·b mod m) / m`, that is real and imaginary parts of powers of roots of unity, packed. -/
module

public import proofs.«01_k».proof.Proof.Scalars
public import proofs.«01_k».proof.Proof.Launch
public import Idealize.ShloMosaic.Lib.StableHlo.RunRead
public import Idealize.ShloMosaic.Lib.Pointwise

@[expose] public section

set_option maxRecDepth 16384

noncomputable section

namespace Cert.KernelIdeal.Tables

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The host's `2π`. -/
def twoPi : FVec Ideal S_ .f32 := mulf (constant S_ .f32 0x41000000#32) (Host.atan (constant S_ .f32 0x3F800000#32))

/-- The scalar form of one angle, as the host computes it, is the angle. -/
theorem angle_word (a b n : ℕ) (w : BitVec 32) (hab : a * b < 2 ^ 31) (hn : 0 < n) (hn' : n < 2 ^ 31)
    (hw : Ideal.ofBits .f32 w = ((n : ℝ) : EReal)) :
    Ideal.div
      (FloatOps.sitofp (F := Ideal) FTy.f32
          (IntOp.remsi ArithUnit.host (IntOp.muli (BitVec.ofNat 32 a) (BitVec.ofNat 32 b)) (BitVec.ofNat 32 n)) *
        (Ideal.ofBits FTy.f32 1090519040#32 * Ideal.atan 1))
      (Ideal.ofBits FTy.f32 w) = ((Fourier.angle n (a * b % n) : ℝ) : EReal) := by
  have h0 : BitVec.ofNat 32 n ≠ 0 := by
    intro h
    have := congrArg BitVec.toNat h
    rw [BitVec.toNat_ofNat, Nat.mod_eq_of_lt (by omega)] at this
    simp at this; omega
  have h1 : BitVec.ofNat 32 n ≠ -1 := by
    intro h
    have := congrArg BitVec.toInt h
    rw [Scalars.toInt_ofNat_small n hn'] at this
    simp at this
  have hr : IntOp.remsi ArithUnit.host (IntOp.muli (BitVec.ofNat 32 a) (BitVec.ofNat 32 b)) (BitVec.ofNat 32 n)
      = (BitVec.ofNat 32 a * BitVec.ofNat 32 b).srem (BitVec.ofNat 32 n) := by
    exact if_neg fun h => h.elim h0 fun h => h1 h.2
  rw [hr, show FloatOps.sitofp (F := Ideal) FTy.f32 ((BitVec.ofNat 32 a * BitVec.ofNat 32 b).srem (BitVec.ofNat 32 n))
      = ((((BitVec.ofNat 32 a * BitVec.ofNat 32 b).srem (BitVec.ofNat 32 n)).toInt : ℝ) : EReal) from rfl,
    Scalars.rem_toInt a b n hab hn', Scalars.ofBits_8, Scalars.two_pi, hw]
  exact Scalars.angle_coe _ n hn.ne'

/-- The angles of the length-125 table. -/
def ang125 : FVec Ideal S125x125 .f32 :=
  Host.divf (mulf (sitofp .f32 (Host.remsi (muli (broadcastInDim S125x125 ![0, 1] bcast_S125x1_S125x125_0_1 (broadcastInDim S125x1 ![0] bcast_S125_S125x1_0 (iotaInDim S125 32 0)))
      (broadcastInDim S125x125 ![0, 1] bcast_S1x125_S125x125_0_1 (broadcastInDim S1x125 ![1] bcast_S125_S1x125_1 (iotaInDim S125 32 0))))
      (broadcastInDim S125x125 ![] bcast_S_S125x125 (constantI S_ 32 125#32))))
      (broadcastInDim S125x125 ![] bcast_S_S125x125 twoPi))
    (broadcastInDim S125x125 ![] bcast_S_S125x125 (constant S_ .f32 0x42FA0000#32))

/-- An entry of the length-125 angles is `2π · (a·b mod m) / m`, `m` the table's length. -/
theorem ang125_apply (a : Fin 125) (b : Fin 125) : ang125 (ix2 a b) = ((Fourier.angle 125 (a * b % 125) : ℝ) : EReal) := by
  pointwise [ang125, twoPi]
  refine angle_word a b 125 _ (lt_of_le_of_lt (Nat.mul_le_mul (Nat.le_of_lt a.isLt) (Nat.le_of_lt b.isLt)) (by norm_num)) (by norm_num) (by norm_num) ?_
  exact_mod_cast Scalars.ofBits_125

/-- Cosines of the length-125 table: real parts of the roots' powers. -/
theorem cos125_apply (a : Fin 125) (b : Fin 125) : (Host.cos ang125 : FVec Ideal S125x125 .f32) (ix2 a b) = (((Fourier.root 125 (a * b)).re : ℝ) : EReal) := by
  rw [show (Host.cos ang125 : FVec Ideal S125x125 .f32) (ix2 a b) = Ideal.cos (ang125 (ix2 a b)) from rfl, ang125_apply,
    Scalars.cos_coe, Fourier.cos_mod 125 (by norm_num), Fourier.root_re]

/-- Negated sines of the length-125 table: imaginary parts of the roots' powers. -/
theorem nsin125_apply (a : Fin 125) (b : Fin 125) : (Host.negf (Host.sin ang125) : FVec Ideal S125x125 .f32) (ix2 a b) = (((Fourier.root 125 (a * b)).im : ℝ) : EReal) := by
  rw [show (Host.negf (Host.sin ang125) : FVec Ideal S125x125 .f32) (ix2 a b) = -Ideal.sin (ang125 (ix2 a b)) from rfl, ang125_apply,
    Scalars.sin_coe, Fourier.sin_mod 125 (by norm_num), Fourier.root_im, EReal.coe_neg]

/-- The angles of the length-128 table. -/
def ang128 : FVec Ideal S128x128 .f32 :=
  Host.divf (mulf (sitofp .f32 (Host.remsi (muli (broadcastInDim S128x128 ![0, 1] bcast_S128x1_S128x128_0_1 (broadcastInDim S128x1 ![0] bcast_S128_S128x1_0 (iotaInDim S128 32 0)))
      (broadcastInDim S128x128 ![0, 1] bcast_S1x128_S128x128_0_1 (broadcastInDim S1x128 ![1] bcast_S128_S1x128_1 (iotaInDim S128 32 0))))
      (broadcastInDim S128x128 ![] bcast_S_S128x128 (constantI S_ 32 128#32))))
      (broadcastInDim S128x128 ![] bcast_S_S128x128 twoPi))
    (broadcastInDim S128x128 ![] bcast_S_S128x128 (constant S_ .f32 0x43000000#32))

/-- An entry of the length-128 angles is `2π · (a·b mod m) / m`, `m` the table's length. -/
theorem ang128_apply (a : Fin 128) (b : Fin 128) : ang128 (ix2 a b) = ((Fourier.angle 128 (a * b % 128) : ℝ) : EReal) := by
  pointwise [ang128, twoPi]
  refine angle_word a b 128 _ (lt_of_le_of_lt (Nat.mul_le_mul (Nat.le_of_lt a.isLt) (Nat.le_of_lt b.isLt)) (by norm_num)) (by norm_num) (by norm_num) ?_
  exact_mod_cast Scalars.ofBits_128

/-- Cosines of the length-128 table: real parts of the roots' powers. -/
theorem cos128_apply (a : Fin 128) (b : Fin 128) : (Host.cos ang128 : FVec Ideal S128x128 .f32) (ix2 a b) = (((Fourier.root 128 (a * b)).re : ℝ) : EReal) := by
  rw [show (Host.cos ang128 : FVec Ideal S128x128 .f32) (ix2 a b) = Ideal.cos (ang128 (ix2 a b)) from rfl, ang128_apply,
    Scalars.cos_coe, Fourier.cos_mod 128 (by norm_num), Fourier.root_re]

/-- Negated sines of the length-128 table: imaginary parts of the roots' powers. -/
theorem nsin128_apply (a : Fin 128) (b : Fin 128) : (Host.negf (Host.sin ang128) : FVec Ideal S128x128 .f32) (ix2 a b) = (((Fourier.root 128 (a * b)).im : ℝ) : EReal) := by
  rw [show (Host.negf (Host.sin ang128) : FVec Ideal S128x128 .f32) (ix2 a b) = -Ideal.sin (ang128 (ix2 a b)) from rfl, ang128_apply,
    Scalars.sin_coe, Fourier.sin_mod 128 (by norm_num), Fourier.root_im, EReal.coe_neg]

/-- The angles of the twist table. -/
def angTw : FVec Ideal S125x128 .f32 :=
  Host.divf (mulf (sitofp .f32 (Host.remsi (muli (broadcastInDim S125x128 ![0, 1] bcast_S125x1_S125x128_0_1 (broadcastInDim S125x1 ![0] bcast_S125_S125x1_0 (iotaInDim S125 32 0)))
      (broadcastInDim S125x128 ![0, 1] bcast_S1x128_S125x128_0_1 (broadcastInDim S1x128 ![1] bcast_S128_S1x128_1 (iotaInDim S128 32 0))))
      (broadcastInDim S125x128 ![] bcast_S_S125x128 (constantI S_ 32 16000#32))))
      (broadcastInDim S125x128 ![] bcast_S_S125x128 twoPi))
    (broadcastInDim S125x128 ![] bcast_S_S125x128 (constant S_ .f32 0x467A0000#32))

/-- An entry of the twist angles is `2π · (a·b mod m) / m`, `m` the table's length. -/
theorem angTw_apply (a : Fin 125) (b : Fin 128) : angTw (ix2 a b) = ((Fourier.angle 16000 (a * b % 16000) : ℝ) : EReal) := by
  pointwise [angTw, twoPi]
  refine angle_word a b 16000 _ (lt_of_le_of_lt (Nat.mul_le_mul (Nat.le_of_lt a.isLt) (Nat.le_of_lt b.isLt)) (by norm_num)) (by norm_num) (by norm_num) ?_
  exact_mod_cast Scalars.ofBits_16000

/-- Cosines of the twist table: real parts of the roots' powers. -/
theorem cosTw_apply (a : Fin 125) (b : Fin 128) : (Host.cos angTw : FVec Ideal S125x128 .f32) (ix2 a b) = (((Fourier.root 16000 (a * b)).re : ℝ) : EReal) := by
  rw [show (Host.cos angTw : FVec Ideal S125x128 .f32) (ix2 a b) = Ideal.cos (angTw (ix2 a b)) from rfl, angTw_apply,
    Scalars.cos_coe, Fourier.cos_mod 16000 (by norm_num), Fourier.root_re]

/-- Negated sines of the twist table: imaginary parts of the roots' powers. -/
theorem nsinTw_apply (a : Fin 125) (b : Fin 128) : (Host.negf (Host.sin angTw) : FVec Ideal S125x128 .f32) (ix2 a b) = (((Fourier.root 16000 (a * b)).im : ℝ) : EReal) := by
  rw [show (Host.negf (Host.sin angTw) : FVec Ideal S125x128 .f32) (ix2 a b) = -Ideal.sin (angTw (ix2 a b)) from rfl, angTw_apply,
    Scalars.sin_coe, Fourier.sin_mod 16000 (by norm_num), Fourier.root_im, EReal.coe_neg]

/-! ## The packs -/

/-- Cosines over negated sines. -/
def f125 : FVec Ideal S250x125 .f32 :=
  concatenate S250x125 0 [⟨S125x125, Host.cos ang125⟩, ⟨S125x125, Host.negf (Host.sin ang125)⟩] concatenates_S125x125_S125x125_S250x125_d0

/-- The length-128 roots as a real 2 by 2 block matrix. -/
def f128 : FVec Ideal S256x256 .f32 :=
  concatenate S256x256 0
    [⟨S128x256, concatenate S128x256 1 [⟨S128x128, Host.cos ang128⟩, ⟨S128x128, Host.negf (Host.sin ang128)⟩] concatenates_S128x128_S128x128_S128x256_d1⟩,
     ⟨S128x256, concatenate S128x256 1 [⟨S128x128, Host.negf (Host.negf (Host.sin ang128))⟩, ⟨S128x128, Host.cos ang128⟩] concatenates_S128x128_S128x128_S128x256_d1⟩]
    concatenates_S128x256_S128x256_S256x256_d0

/-- The conjugate roots as a real 2 by 2 block matrix. -/
def g128 : FVec Ideal S256x256 .f32 :=
  concatenate S256x256 0
    [⟨S128x256, concatenate S128x256 1 [⟨S128x128, Host.cos ang128⟩, ⟨S128x128, Host.negf (Host.negf (Host.sin ang128))⟩] concatenates_S128x128_S128x128_S128x256_d1⟩,
     ⟨S128x256, concatenate S128x256 1 [⟨S128x128, Host.negf (Host.negf (Host.negf (Host.sin ang128)))⟩, ⟨S128x128, Host.cos ang128⟩] concatenates_S128x128_S128x128_S128x256_d1⟩]
    concatenates_S128x256_S128x256_S256x256_d0

/-- Cosines beside negated sines. -/
def g125 : FVec Ideal S125x250 .f32 :=
  concatenate S125x250 1 [⟨S125x125, Host.cos ang125⟩, ⟨S125x125, Host.negf (Host.negf (Host.negf (Host.sin ang125)))⟩] concatenates_S125x125_S125x125_S125x250_d1

/-! ## What the host line leaves in each -/

/-- The tables' host line leaves the cosines of length 125. -/
theorem W5_v22 (c : Dev nD) : W5 m ρ c (Proc.devRef .tc main_v22) = (Host.cos ang125 : FVec Ideal S125x125 .f32) := by
  unfold W5; after_reads_simp; rfl
/-- The tables' host line leaves the cosines of length 128. -/
theorem W5_v37 (c : Dev nD) : W5 m ρ c (Proc.devRef .tc main_v37) = (Host.cos ang128 : FVec Ideal S128x128 .f32) := by
  unfold W5; after_reads_simp; rfl
/-- The tables' host line leaves the negated sines of length 128. -/
theorem W5_v39 (c : Dev nD) : W5 m ρ c (Proc.devRef .tc main_v39) = (Host.negf (Host.sin ang128) : FVec Ideal S128x128 .f32) := by
  unfold W5; after_reads_simp; rfl
/-- The tables' host line leaves the sines of length 128, for the conjugate table. -/
theorem W5_v56 (c : Dev nD) : W5 m ρ c (Proc.devRef .tc main_v56) = (Host.negf (Host.negf (Host.sin ang128)) : FVec Ideal S128x128 .f32) := by
  unfold W5; after_reads_simp; rfl
/-- The tables' host line leaves the sines of length 128, for the forward table. -/
theorem W5_v58 (c : Dev nD) : W5 m ρ c (Proc.devRef .tc main_v58) = (Host.negf (Host.negf (Host.sin ang128)) : FVec Ideal S128x128 .f32) := by
  unfold W5; after_reads_simp; rfl
/-- The tables' host line leaves the sines of length 125. -/
theorem W5_v55 (c : Dev nD) : W5 m ρ c (Proc.devRef .tc main_v55) = (Host.negf (Host.negf (Host.sin ang125)) : FVec Ideal S125x125 .f32) := by
  unfold W5; after_reads_simp; rfl
/-- The tables' host line leaves the length-125 pack. -/
theorem W5_v57 (c : Dev nD) : W5 m ρ c (Proc.devRef .tc main_v57) = f125 := by
  unfold W5; after_reads_simp; rfl
/-- The tables' host line leaves the twist's cosines. -/
theorem W5_v52 (c : Dev nD) : W5 m ρ c (Proc.devRef .tc main_v52) = (Host.cos angTw : FVec Ideal S125x128 .f32) := by
  unfold W5; after_reads_simp; rfl
/-- The tables' host line leaves the twist's negated sines. -/
theorem W5_v54 (c : Dev nD) : W5 m ρ c (Proc.devRef .tc main_v54) = (Host.negf (Host.sin angTw) : FVec Ideal S125x128 .f32) := by
  unfold W5; after_reads_simp; rfl

/-- A buffer none of the four short lines after the tables' line writes keeps its contents through them. -/
theorem W9_of_W5 (c : Dev nD) (r : Ref sig .tc) (h1 : r ∉ hostOps2_1_W) (h2 : r ∉ hostOps2_2_W) (h3 : r ∉ hostOps2_3_W)
    (h4 : r ∉ hostOps2_4_W) : W9 m ρ c (Proc.devRef .tc r) = W5 m ρ c (Proc.devRef .tc r) :=
  (W9_of m ρ c r h4).trans ((W8_of m ρ c r h3).trans ((W7_of m ρ c r h2).trans (W6_of m ρ c r h1)))

/-- The third region finds the length-125 pack. -/
theorem W9_v57 (c : Dev nD) : W9 m ρ c (Proc.devRef .tc main_v57) = f125 :=
  (W9_of_W5 m ρ c main_v57 (by decide) (by decide) (by decide) (by decide)).trans (W5_v57 m ρ c)
/-- The third region finds the twist's cosines. -/
theorem W9_v52 (c : Dev nD) : W9 m ρ c (Proc.devRef .tc main_v52) = (Host.cos angTw : FVec Ideal S125x128 .f32) :=
  (W9_of_W5 m ρ c main_v52 (by decide) (by decide) (by decide) (by decide)).trans (W5_v52 m ρ c)
/-- The third region finds the twist's negated sines. -/
theorem W9_v54 (c : Dev nD) : W9 m ρ c (Proc.devRef .tc main_v54) = (Host.negf (Host.sin angTw) : FVec Ideal S125x128 .f32) :=
  (W9_of_W5 m ρ c main_v54 (by decide) (by decide) (by decide) (by decide)).trans (W5_v54 m ρ c)

/-- The next line leaves the length-128 pack. -/
theorem W6_v59 (c : Dev nD) : W6 m ρ c (Proc.devRef .tc main_v59) = f128 := by
  have h1 := W5_v37 m ρ c
  have h2 := W5_v39 m ρ c
  have h3 := W5_v58 m ρ c
  unfold W6
  generalize W5 m ρ = W at h1 h2 h3 ⊢
  after_reads_simp
  unfold f128
  rw [← h1, ← h3, ← h2]
  rfl
/-- The third region finds the length-128 pack. -/
theorem W9_v59 (c : Dev nD) : W9 m ρ c (Proc.devRef .tc main_v59) = f128 :=
  (W9_of m ρ c main_v59 (by decide)).trans ((W8_of m ρ c main_v59 (by decide)).trans ((W7_of m ρ c main_v59 (by decide)).trans (W6_v59 m ρ c)))

/-- The line after it leaves the sines of length 128, negated again. -/
theorem W7_v60 (c : Dev nD) : W7 m ρ c (Proc.devRef .tc main_v60) = (Host.negf (Host.negf (Host.negf (Host.sin ang128))) : FVec Ideal S128x128 .f32) := by
  have h1 := (W6_of m ρ c main_v56 (by decide)).trans (W5_v56 m ρ c)
  unfold W7
  generalize W6 m ρ = W at h1 ⊢
  after_reads_simp
  rw [← h1]
/-- The line after that leaves the conjugate length-128 pack. -/
theorem W8_v61 (c : Dev nD) : W8 m ρ c (Proc.devRef .tc main_v61) = g128 := by
  have h1 := (W7_of m ρ c main_v37 (by decide)).trans ((W6_of m ρ c main_v37 (by decide)).trans (W5_v37 m ρ c))
  have h2 := (W7_of m ρ c main_v56 (by decide)).trans ((W6_of m ρ c main_v56 (by decide)).trans (W5_v56 m ρ c))
  have h3 := W7_v60 m ρ c
  unfold W8
  generalize W7 m ρ = W at h1 h2 h3 ⊢
  after_reads_simp
  unfold g128
  rw [← h1, ← h3, ← h2]
  rfl
/-- The third region finds the conjugate length-128 pack. -/
theorem W9_v61 (c : Dev nD) : W9 m ρ c (Proc.devRef .tc main_v61) = g128 :=
  (W9_of m ρ c main_v61 (by decide)).trans (W8_v61 m ρ c)
/-- The third region finds the conjugate length-125 pack. -/
theorem W9_v63 (c : Dev nD) : W9 m ρ c (Proc.devRef .tc main_v63) = g125 := by
  have h1 := (W8_of m ρ c main_v22 (by decide)).trans ((W7_of m ρ c main_v22 (by decide)).trans ((W6_of m ρ c main_v22 (by decide)).trans (W5_v22 m ρ c)))
  have h2 := (W8_of m ρ c main_v55 (by decide)).trans ((W7_of m ρ c main_v55 (by decide)).trans ((W6_of m ρ c main_v55 (by decide)).trans (W5_v55 m ρ c)))
  unfold W9
  generalize W8 m ρ = W at h1 h2 ⊢
  after_reads_simp
  unfold g125
  rw [← h1, ← h2]
  rfl

/-! ## The packs, entry by entry -/

/-- An entry of a negated array is the entry's negation. -/
theorem negf_apply' {s : Shape} (v : FVec Ideal s .f32) (i : s.Idx) (r : ℝ) (h : v i = (r : EReal)) :
    (Host.negf v : FVec Ideal s .f32) i = ((-r : ℝ) : EReal) := by
  rw [show (Host.negf v : FVec Ideal s .f32) i = -(v i) from rfl, h, EReal.coe_neg]

/-- Upper half of the length-125 pack: the roots' real parts. -/
theorem f125_re (a b : Fin 125) : f125 (ix2 (⟨a, by omega⟩ : Fin 250) b) = (((Fourier.root 125 (a * b)).re : ℝ) : EReal) := by
  rw [← cos125_apply]; pointwise [f125]
/-- Lower half of the length-125 pack: the roots' imaginary parts. -/
theorem f125_im (a b : Fin 125) : f125 (ix2 (⟨125 + a, by omega⟩ : Fin 250) b) = (((Fourier.root 125 (a * b)).im : ℝ) : EReal) := by
  rw [← nsin125_apply]; pointwise [f125]
/-- Upper left quarter of the length-128 pack: the roots' real parts. -/
theorem f128_00 (a b : Fin 128) : f128 (ix2 (⟨a, by omega⟩ : Fin 256) (⟨b, by omega⟩ : Fin 256)) = (((Fourier.root 128 (a * b)).re : ℝ) : EReal) := by
  rw [← cos128_apply]; pointwise [f128]
/-- Upper right quarter of the length-128 pack: the roots' imaginary parts. -/
theorem f128_01 (a b : Fin 128) : f128 (ix2 (⟨a, by omega⟩ : Fin 256) (⟨128 + b, by omega⟩ : Fin 256)) = (((Fourier.root 128 (a * b)).im : ℝ) : EReal) := by
  rw [← nsin128_apply]; pointwise [f128]
/-- Lower left quarter of the length-128 pack: the roots' negated imaginary parts. -/
theorem f128_10 (a b : Fin 128) : f128 (ix2 (⟨128 + a, by omega⟩ : Fin 256) (⟨b, by omega⟩ : Fin 256)) = ((-(Fourier.root 128 (a * b)).im : ℝ) : EReal) := by
  rw [← negf_apply' _ _ _ (nsin128_apply a b)]; pointwise [f128]
/-- Lower right quarter of the length-128 pack: the roots' real parts. -/
theorem f128_11 (a b : Fin 128) : f128 (ix2 (⟨128 + a, by omega⟩ : Fin 256) (⟨128 + b, by omega⟩ : Fin 256)) = (((Fourier.root 128 (a * b)).re : ℝ) : EReal) := by
  rw [← cos128_apply]; pointwise [f128]
/-- Upper left quarter of the conjugate length-128 pack: the roots' real parts. -/
theorem g128_00 (a b : Fin 128) : g128 (ix2 (⟨a, by omega⟩ : Fin 256) (⟨b, by omega⟩ : Fin 256)) = (((Fourier.root 128 (a * b)).re : ℝ) : EReal) := by
  rw [← cos128_apply]; pointwise [g128]
/-- Upper right quarter of the conjugate length-128 pack: the roots' negated imaginary parts. -/
theorem g128_01 (a b : Fin 128) : g128 (ix2 (⟨a, by omega⟩ : Fin 256) (⟨128 + b, by omega⟩ : Fin 256)) = ((-(Fourier.root 128 (a * b)).im : ℝ) : EReal) := by
  rw [← negf_apply' _ _ _ (nsin128_apply a b)]; pointwise [g128]
/-- Lower left quarter of the conjugate length-128 pack: the roots' imaginary parts. -/
theorem g128_10 (a b : Fin 128) : g128 (ix2 (⟨128 + a, by omega⟩ : Fin 256) (⟨b, by omega⟩ : Fin 256)) = (((Fourier.root 128 (a * b)).im : ℝ) : EReal) := by
  rw [show (Fourier.root 128 (a * b)).im = -(-(Fourier.root 128 (a * b)).im) by ring,
    ← negf_apply' _ _ _ (negf_apply' _ _ _ (nsin128_apply a b))]; pointwise [g128]
/-- Lower right quarter of the conjugate length-128 pack: the roots' real parts. -/
theorem g128_11 (a b : Fin 128) : g128 (ix2 (⟨128 + a, by omega⟩ : Fin 256) (⟨128 + b, by omega⟩ : Fin 256)) = (((Fourier.root 128 (a * b)).re : ℝ) : EReal) := by
  rw [← cos128_apply]; pointwise [g128]
/-- Left half of the conjugate length-125 pack: the roots' real parts. -/
theorem g125_re (a b : Fin 125) : g125 (ix2 a (⟨b, by omega⟩ : Fin 250)) = (((Fourier.root 125 (a * b)).re : ℝ) : EReal) := by
  rw [← cos125_apply]; pointwise [g125]
/-- Right half of the conjugate length-125 pack: the roots' imaginary parts. -/
theorem g125_im (a b : Fin 125) : g125 (ix2 a (⟨125 + b, by omega⟩ : Fin 250)) = (((Fourier.root 125 (a * b)).im : ℝ) : EReal) := by
  rw [show (Fourier.root 125 (a * b)).im = -(-(Fourier.root 125 (a * b)).im) by ring,
    ← negf_apply' _ _ _ (negf_apply' _ _ _ (nsin125_apply a b))]; pointwise [g125]

end Cert.KernelIdeal.Tables

end
-- ==== Proof.Block.lean ====
/- The block of sixteen rows the third kernel stores, over the tables the host hands it and over real rows: the
   convolution of the rows. -/
module

public import proofs.«01_k».proof.Proof.Stages
public import proofs.«01_k».proof.Proof.Tables

@[expose] public section

set_option maxRecDepth 16384

noncomputable section

namespace Cert.KernelIdeal.Block

open Cert.KernelIdeal Cert.KernelIdeal.Gen
open Idealize.ShloMosaic Idealize.ShloMosaic.TcCoe Idealize.SL.Sem Cert.Fourier

/-- The kernel's scale is the real `1/16000`. -/
theorem inv_n : Named.named (F := Ideal) κ "inv_n" (φ := .f32) 0x3883126F#32 = ((1 / 16000 : ℝ) : EReal) :=
  IdealRules.named_const.ideal_named_scalar _ _ _ _ rfl

/-- What the body computes of two blocks of rows and the six tables. -/
def block (vx vy : Vec Ideal S16x16000 .f32) (f125 : Vec Ideal S250x125 .f32) (f128 g128 : Vec Ideal S256x256 .f32)
    (g125 : Vec Ideal S125x250 .f32) (tr ti : Vec Ideal S125x128 .f32) : FVec Ideal S16x16000 .f32 :=
  k2_pay1 (k2_pay10 (k2_pay3 f128) (k2_pay4 tr) (k2_pay5 ti) (k2_pay6 f125 f128 tr ti vx) (k2_pay8 f125 vy) (k2_pay9 f125 vy) g128 g125)
    (Named.named κ "inv_n" 0x3883126F#32)

variable (vx vy : Vec Ideal S16x16000 .f32) (x y : Fin 16 → Fin 16000 → ℝ)
  (hx : ∀ b n, vx (ix2 b n) = ((x b n : ℝ) : EReal)) (hy : ∀ b n, vy (ix2 b n) = ((y b n : ℝ) : EReal))

/-- Row `r % 16`'s spectrum at frequencies `(r / 16, k1)`. -/
def rowSpec (x : Fin 16 → Fin 16000 → ℝ) (r : Fin 2000) (k1 : Fin 128) : ℂ :=
  spec (fun n2 n1 => x ⟨r % 16, Stages.mod16 r⟩ (time n2 n1)) ⟨r / 16, Stages.div16 r⟩ k1

include hx in
/-- The body's forward half leaves the real part of row `r % 16`'s spectrum in the left half of row `r`. -/
theorem spec_re (r : Fin 2000) (k1 : Fin 128) :
    Stages.second (k2_pay8 Tables.f125 vx) (k2_pay9 Tables.f125 vx) (Host.cos Tables.angTw) (Host.negf (Host.sin Tables.angTw)) Tables.f128
      (ix2 r (⟨k1, Stages.lo k1⟩ : Fin 256)) = (((rowSpec x r k1).re : ℝ) : EReal) :=
  Stages.second_re _ _ _ _ _ (fun b k2 n1 => first (fun n2 n1 => x b (time n2 n1)) k2 n1) (fun k2 n1 => root 16000 (k2 * n1)) (fun a b => root 128 (a * b))
    (fun k2 b n1 => Stages.first_re _ vx x hx Tables.f125_re k2 b n1)
    (fun k2 b n1 => Stages.first_im _ vx x hx Tables.f125_im k2 b n1)
    Tables.cosTw_apply Tables.nsinTw_apply Tables.f128_00 Tables.f128_10 r k1

include hx in
/-- The body's forward half leaves the imaginary part of row `r % 16`'s spectrum in the right half of row `r`. -/
theorem spec_im (r : Fin 2000) (k1 : Fin 128) :
    Stages.second (k2_pay8 Tables.f125 vx) (k2_pay9 Tables.f125 vx) (Host.cos Tables.angTw) (Host.negf (Host.sin Tables.angTw)) Tables.f128
      (ix2 r (⟨128 + k1, Stages.hi k1⟩ : Fin 256)) = (((rowSpec x r k1).im : ℝ) : EReal) :=
  Stages.second_im _ _ _ _ _ (fun b k2 n1 => first (fun n2 n1 => x b (time n2 n1)) k2 n1) (fun k2 n1 => root 16000 (k2 * n1)) (fun a b => root 128 (a * b))
    (fun k2 b n1 => Stages.first_re _ vx x hx Tables.f125_re k2 b n1)
    (fun k2 b n1 => Stages.first_im _ vx x hx Tables.f125_im k2 b n1)
    Tables.cosTw_apply Tables.nsinTw_apply Tables.f128_01 Tables.f128_11 r k1

/-- The four identity casts of the tables leave them as they are. -/
theorem block_eq (f125 : Vec Ideal S250x125 .f32) (f128 g128 : Vec Ideal S256x256 .f32)
    (g125 : Vec Ideal S125x250 .f32) (tr ti : Vec Ideal S125x128 .f32) :
    block vx vy f125 f128 g128 g125 tr ti
      = k2_pay1 (F := Ideal) (Stages.fourth (Stages.third (Stages.second (k2_pay8 f125 vx) (k2_pay9 f125 vx) tr ti f128)
          (Stages.second (k2_pay8 f125 vy) (k2_pay9 f125 vy) tr ti f128) g128) tr ti g125) ((1 / 16000 : ℝ) : EReal) := by
  have e3 : k2_pay3 f128 = f128 := by funext i; pointwise [k2_pay3]
  have e4 : k2_pay4 tr = tr := by funext i; pointwise [k2_pay4]
  have e5 : k2_pay5 ti = ti := by funext i; pointwise [k2_pay5]
  have e6 : (shapeCast S256x256 g128 shapeCasts_S256x256_S256x256 : FVec Ideal S256x256 .f32) = g128 := by funext i; pointwise
  have e7 : (shapeCast S125x250 g125 shapeCasts_S125x250_S125x250 : FVec Ideal S125x250 .f32) = g125 := by funext i; pointwise
  rw [block, Stages.pay6_eq, Stages.pay10_eq, e3, e4, e5, e6, e7, inv_n]

include hx hy in
/-- The stored block is, row by row, the convolution of the rows. -/
theorem block_apply (b : Fin 16) (n : Fin 16000) :
    block vx vy Tables.f125 Tables.f128 Tables.g128 Tables.g125 (Host.cos Tables.angTw) (Host.negf (Host.sin Tables.angTw)) (ix2 b n)
      = ((conv (x b) (y b) n : ℝ) : EReal) := by
  rw [block_eq]
  refine (Stages.fourth_apply _ _ _ _ (fun r n1 => ∑ k1, (rowSpec x r k1 * rowSpec y r k1) * (starRingEnd ℂ) (root 128 (k1 * n1)))
    (fun k2 n1 => root 16000 (k2 * n1)) (fun a b => root 125 (a * b))
    (Stages.third_re _ _ _ (rowSpec x) (rowSpec y) (fun a b => root 128 (a * b)) (spec_re vx x hx) (spec_im vx x hx) (spec_re vy y hy) (spec_im vy y hy)
      Tables.g128_00 Tables.g128_10)
    (Stages.third_im _ _ _ (rowSpec x) (rowSpec y) (fun a b => root 128 (a * b)) (spec_re vx x hx) (spec_im vx x hx) (spec_re vy y hy) (spec_im vy y hy)
      Tables.g128_01 Tables.g128_11)
    Tables.cosTw_apply Tables.nsinTw_apply Tables.g125_re Tables.g125_im (1 / 16000) b n).trans ?_
  refine congrArg (fun r : ℝ => (r : EReal)) ?_
  have hn : n = time ⟨n / 128, Stages.div128 n⟩ ⟨n % 128, Stages.mod128 n⟩ := by
    simp only [time, Fin.ext_iff]; omega
  conv_rhs => rw [hn, ← conv_eq]
  refine congrArg (· * (1 / 16000 : ℝ)) (congrArg Complex.re ?_)
  unfold out untwist back rowSpec
  refine Finset.sum_congr rfl fun k2 _ => ?_
  have e1 : (k2.val * 16 + b.val) % 16 = b.val := by omega
  have e2 : (k2.val * 16 + b.val) / 16 = k2.val := by omega
  simp only [e1, e2]

end Cert.KernelIdeal.Block

end
-- ==== Proof.Count.lean ====
/- The count sketch of real rows, and an extended-real sum of the entries an index selects. -/
module

public import proofs.«01_k».proof.Proof.Scalars

@[expose] public section

noncomputable section

namespace Cert.Count

open Idealize.ShloMosaic

/-- The count sketch of a row: position `k` adds the signed entries whose index is `k`. -/
def sk (x s : Fin 2048 → ℝ) (i : Fin 2048 → ℕ) (k : Fin 16000) : ℝ := ∑ d, if i d = k.val then x d * s d else 0

/-- A sum over a filtered set is the sketch. -/
theorem sum_filter (x s : Fin 2048 → ℝ) (i : Fin 2048 → ℕ) (k : Fin 16000) :
    ∑ d ∈ Finset.univ.filter (fun d => i d = k.val), ((x d : EReal) * (s d : EReal)) = ((sk x s i k : ℝ) : EReal) := by
  rw [Scalars.sum_mul_coe, Finset.sum_filter]
  rfl

/-- A sum of selected terms is the sketch. -/
theorem sum_ite (x s : Fin 2048 → ℝ) (i : Fin 2048 → ℕ) (k : Fin 16000) :
    ∑ d, (if i d = k.val then (x d : EReal) * (s d : EReal) else 0) = ((sk x s i k : ℝ) : EReal) := by
  rw [← Finset.sum_filter]
  exact sum_filter x s i k

/-- A 32-bit word equals a small number's word exactly when its value is the number. -/
theorem word_eq (w : BitVec 32) (k : Fin 16000) : w = BitVec.ofNat 32 k.val ↔ w.toNat = k.val := by
  rw [← BitVec.toNat_inj, BitVec.toNat_ofNat, Nat.mod_eq_of_lt (by omega)]

/-- A nonnegative 32-bit word read signed is its value. -/
theorem word_toInt (w : BitVec 32) (hw : 0 ≤ w.toInt) : w.toInt = (w.toNat : ℤ) := by
  rw [BitVec.toInt_eq_toNat_cond] at hw ⊢
  split at hw <;> rename_i h
  · rw [if_pos h]
  · omega

/-- Selecting by equality of words. -/
theorem select_eq (w v : BitVec 32) (x y : EReal) : Scalar.select (IntOp.cmpi CmpIPredicate.eq w v) x y = if w = v then x else y := by
  by_cases h : w = v
  · subst h; simp [Scalar.select, IntOp.cmpi]
  · have hb : (w == v) = false := by simp [h]
    simp [Scalar.select, IntOp.cmpi, h, hb]

/-- Wrapping a nonnegative index word leaves it. -/
theorem wrap_nonneg (w v : BitVec 32) (hw : 0 ≤ w.toInt) : Scalar.select (IntOp.cmpi CmpIPredicate.slt w 0#32) v w = w := by
  have h : w.slt 0#32 = false := by
    simp [BitVec.slt, hw]
  simp [Scalar.select, IntOp.cmpi, h]

end Cert.Count

end
-- ==== Proof.Regions.lean ====
/- The arrays the third region finds: the two sketches of the arguments, and its result. -/
module

public import proofs.«01_k».proof.Proof.Sketch
public import proofs.«01_k».proof.Proof.Block
public import proofs.«01_k».proof.Proof.Count

@[expose] public section

set_option maxRecDepth 16384

noncomputable section

namespace Cert.KernelIdeal.Regions

open Cert.KernelIdeal Cert.KernelIdeal.Gen
open Idealize.ShloMosaic Idealize.ShloMosaic.TcCoe Idealize.ShloMosaic.Tactic Idealize.SL.Sem
open Idealize.ShloMosaic.Pipeline (Dat)

variable (m : (ℓ : Loc nD τ sig) → Buf (Elt Ideal) ℓ) (ρ : Dev nD → PrngReg)

/-- A vector of 2048 as a column. -/
abbrev col {α : Type} (v : S2048.Idx → α) : S2048x1.Idx → α := shapeCast S2048x1 v shapeCasts_S2048_S2048x1

/-- Before the first region: the first index argument, as a column. -/
theorem W1_v0 (c : Dev nD) : W1 m ρ c (Proc.devRef .tc main_v0) = col (m ((c : Thread nD τ).loc main_arg3)) := by
  after_reads_simp
  rfl
/-- Before the first region: the first sign argument, as a column. -/
theorem W1_v1 (c : Dev nD) : W1 m ρ c (Proc.devRef .tc main_v1) = col (m ((c : Thread nD τ).loc main_arg2)) := by
  after_reads_simp
  rfl
/-- Before the second region: the second index argument, as a column. -/
theorem W3_v3 (c : Dev nD) : W3 m ρ c (Proc.devRef .tc main_v3) = col (m ((c : Thread nD τ).loc main_arg5)) := by
  after_reads_simp
  rw [W2_args m ρ c main_arg5 (by decide)]
  rfl
/-- Before the second region: the second sign argument, as a column. -/
theorem W3_v4 (c : Dev nD) : W3 m ρ c (Proc.devRef .tc main_v4) = col (m ((c : Thread nD τ).loc main_arg4)) := by
  after_reads_simp
  rw [W2_args m ρ c main_arg4 (by decide)]
  rfl

/-- The third region finds the sketch of the first argument. -/
theorem W9_v2 (c : Dev nD) : W9 m ρ c (Proc.devRef .tc main_v2)
    = Sketch.sketch (m ((c : Thread nD τ).loc main_arg0)) (col (m ((c : Thread nD τ).loc main_arg3))) (col (m ((c : Thread nD τ).loc main_arg2))) := by
  rw [Tables.W9_of_W5 m ρ c main_v2 (by decide) (by decide) (by decide) (by decide), W5_of m ρ c main_v2 (by decide),
    W4_of m ρ c main_v2 (by decide +kernel), W3_of m ρ c main_v2 (by decide)]
  refine (W2_arr m ρ c 3).trans ((Sketch.final0 (V1 m ρ) c).trans ?_)
  rw [show V1 m ρ c main_v0 = _ from W1_v0 m ρ c, show V1 m ρ c main_v1 = _ from W1_v1 m ρ c,
    show V1 m ρ c main_arg0 = _ from W1_args m ρ c main_arg0 (by decide)]

/-- The third region finds the sketch of the second argument. -/
theorem W9_v5 (c : Dev nD) : W9 m ρ c (Proc.devRef .tc main_v5)
    = Sketch.sketch (m ((c : Thread nD τ).loc main_arg1)) (col (m ((c : Thread nD τ).loc main_arg5))) (col (m ((c : Thread nD τ).loc main_arg4))) := by
  rw [Tables.W9_of_W5 m ρ c main_v5 (by decide) (by decide) (by decide) (by decide), W5_of m ρ c main_v5 (by decide)]
  refine (W4_arr m ρ c 3).trans ((Sketch.final1 (V3 m ρ) c).trans ?_)
  rw [show V3 m ρ c main_v3 = _ from W3_v3 m ρ c, show V3 m ρ c main_v4 = _ from W3_v4 m ρ c,
    show V3 m ρ c main_arg1 = _ from W3_args m ρ c main_arg1 (by decide)]

/-- A sketch of real rows and signs is the real sketch. -/
theorem sketch_coe (x : FVec Ideal S1024x2048 .f32) (i : IVec S2048 32) (s : FVec Ideal S2048 .f32)
    (xr : Fin 1024 → Fin 2048 → ℝ) (sr : Fin 2048 → ℝ) (hx : ∀ b d, x (ix2 b d) = ((xr b d : ℝ) : EReal))
    (hs : ∀ d, s (ix1 d) = ((sr d : ℝ) : EReal)) (b : Fin 1024) (k : Fin 16000) :
    Sketch.sketch x (col i) (col s) (ix2 b k) = ((Count.sk (xr b) sr (fun d => (i (ix1 d)).toNat) k : ℝ) : EReal) := by
  pointwise [Sketch.sketch]
  simp only [Count.select_eq, Count.word_eq, hx, hs]
  exact Count.sum_ite _ _ _ _

end Cert.KernelIdeal.Regions

end
-- ==== Proof.Third.lean ====
/- The third region's output array: every row is the convolution of the rows of its two operands. -/
module

public import proofs.«01_k».proof.Proof.Regions

@[expose] public section

set_option maxRecDepth 16384

noncomputable section

namespace Cert.KernelIdeal.Third

open Cert.KernelIdeal Cert.KernelIdeal.Gen
open Idealize.ShloMosaic Idealize.ShloMosaic.TcCoe Idealize.SL.Sem
open Idealize.ShloMosaic.Pipeline (Dat)

/-- The blocks of every grid point: the point's own sixteen rows of the operands and the result, the whole tables. -/
theorem idx2 : ∀ t : Fin cfg2.N, win2_0.index t = ![t.val, 0] ∧ win2_1.index t = ![t.val, 0] ∧ win2_2.index t = ![0, 0] ∧
    win2_3.index t = ![0, 0] ∧ win2_4.index t = ![0, 0] ∧ win2_5.index t = ![0, 0] ∧ win2_6.index t = ![0, 0] ∧
    win2_7.index t = ![0, 0] ∧ win2_8.index t = ![t.val, 0] :=
  (by decide +kernel : ∀ t : Fin grid2.N, _)

variable (V : (c : Dev nD) → (b : Ref sig .tc) → Buf (Elt Ideal) ((c : Thread nD τ).loc b))

/-- At every grid point, operand 2's block is the whole length-125 table. -/
theorem blk2 (c : Dev nD) (t : Fin cfg2.N) : iblk2 V c 2 t = V c main_v57 := by blk_ext! [iblk2, idx2 t]
/-- At every grid point, operand 3's block is the whole length-128 table. -/
theorem blk3 (c : Dev nD) (t : Fin cfg2.N) : iblk2 V c 3 t = V c main_v59 := by blk_ext! [iblk2, idx2 t]
/-- At every grid point, operand 4's block is the whole conjugate length-128 table. -/
theorem blk4 (c : Dev nD) (t : Fin cfg2.N) : iblk2 V c 4 t = V c main_v61 := by blk_ext! [iblk2, idx2 t]
/-- At every grid point, operand 5's block is the whole conjugate length-125 table. -/
theorem blk5 (c : Dev nD) (t : Fin cfg2.N) : iblk2 V c 5 t = V c main_v63 := by blk_ext! [iblk2, idx2 t]
/-- At every grid point, operand 6's block is the whole table of the twist's cosines. -/
theorem blk6 (c : Dev nD) (t : Fin cfg2.N) : iblk2 V c 6 t = V c main_v52 := by blk_ext! [iblk2, idx2 t]
/-- At every grid point, operand 7's block is the whole table of the twist's negated sines. -/
theorem blk7 (c : Dev nD) (t : Fin cfg2.N) : iblk2 V c 7 t = V c main_v54 := by blk_ext! [iblk2, idx2 t]

/-- Row `b` of point `t`'s block is row `16 t + b` of the array. -/
def rowAt (t : Fin cfg2.N) (b : Fin 16) : Fin 1024 := ⟨t.val * 16 + b.val, by have := t.isLt; have : cfg2.N = 64 := rfl; omega⟩

/-- At point `t`, the first operand's block is sixteen rows of the first sketch. -/
theorem blk0 (c : Dev nD) (t : Fin cfg2.N) (b : Fin 16) (n : Fin 16000) :
    iblk2 V c 0 t (ix2 b n) = V c main_v2 (ix2 (rowAt t b) n) := by
  blk_ext [iblk2, idx2 t, rowAt]
/-- At point `t`, the second operand's block is sixteen rows of the second sketch. -/
theorem blk1 (c : Dev nD) (t : Fin cfg2.N) (b : Fin 16) (n : Fin 16000) :
    iblk2 V c 1 t (ix2 b n) = V c main_v5 (ix2 (rowAt t b) n) := by
  blk_ext [iblk2, idx2 t, rowAt]

/-- The rows' convolutions, as an array. -/
def conv (x y : Fin 1024 → Fin 16000 → ℝ) : FVec Ideal S1024x16000 .f32 := fun i =>
  ((Fourier.conv (x (i 0)) (y (i 0)) (i 1) : ℝ) : EReal)

/-- After the third region its output array holds the convolutions of the operands' rows. -/
theorem final2 (c : Dev nD) (x y : Fin 1024 → Fin 16000 → ℝ)
    (hx : ∀ b n, V c main_v2 (ix2 b n) = ((x b n : ℝ) : EReal)) (hy : ∀ b n, V c main_v5 (ix2 b n) = ((y b n : ℝ) : EReal))
    (h2 : V c main_v57 = Tables.f125) (h3 : V c main_v59 = Tables.f128) (h4 : V c main_v61 = Tables.g128) (h5 : V c main_v63 = Tables.g125)
    (h6 : V c main_v52 = Host.cos Tables.angTw) (h7 : V c main_v54 = Host.negf (Host.sin Tables.angTw)) :
    (dat2 V c).arrAt 8 cfg2.N = conv x y := by
  refine (dat2 V c).arrAt_eq_of_covers 8 _ (by decide +kernel) fun t _ j => ?_
  blk_simp
  rw [after2_8, blk2, blk3, blk4, blk5, blk6, blk7, h2, h3, h4, h5, h6, h7]
  frame_out
  obtain ⟨b, n, rfl⟩ : ∃ (b : Fin 16) (n : Fin 16000), j = ix2 b n := ⟨j 0, j 1, eq_ix2 j⟩
  refine (Block.block_apply (iblk2 V c 0 t) (iblk2 V c 1 t) (fun b => x (rowAt t b)) (fun b => y (rowAt t b))
    (fun b n => (blk0 V c t b n).trans (hx _ _)) (fun b n => (blk1 V c t b n).trans (hy _ _)) b n).trans ?_
  unfold conv
  have e0 : (((cfg2.win 8).blk t).view.emb (ix2 b n) 0 : Fin 1024) = rowAt t b := by
    apply Fin.ext; blk_simp [idx2 t, rowAt]
  have e1 : (((cfg2.win 8).blk t).view.emb (ix2 b n) 1 : Fin 16000) = n := by
    apply Fin.ext; blk_simp [idx2 t]
  exact (congrArg₂ (fun (r : Fin 1024) (k : Fin 16000) => ((Fourier.conv (x r) (y r) k : ℝ) : EReal)) e0 e1).symm

end Cert.KernelIdeal.Third

end
-- ==== Proof.Scatter.lean ====
/- The reference's accumulating scatter, read at one entry: the operand's entry plus the update entries of its row whose
   index word, read signed, is its column. -/
module

public import proofs.«01_k».proof.Proof.Gen.ReferenceIdeal
public import Idealize.ShloMosaic.Lib.Routing.OpsPair
public import Idealize.ShloMosaic.PureOps.Ideal

@[expose] public section

set_option maxRecDepth 16384

noncomputable section

namespace Cert.ReferenceIdeal.Scatter

open Cert.ReferenceIdeal Cert.ReferenceIdeal.Gen
open Idealize.ShloMosaic Idealize.ShloMosaic.ValueIdx

/-- The scatter's dimension numbers: whole rows of updates, each column sent where its index word says. -/
abbrev dims : ScatterDims S1024x16000 S2048x1 S1024x2048 := scatter_S1024x16000_S2048x1_S1024x2048_0_1_1_1

/-- The update entry `(b', d)` lands at `(b, k)` exactly when the rows are one and the index word of `d` is `k`. -/
theorem lands (idx : IVec S2048x1 32) (b' b : Fin 1024) (d : Fin 2048) (k : Fin 16000) :
    dims.resultIdx? (ix2 b' d) idx = some (ix2 b k) ↔ b' = b ∧ (idx (ix2 d (0 : Fin 1))).toInt = (k.val : Int) := by
  have hstart0 : dims.start (ix2 b' d) idx 0 = 0 := by
    unfold ScatterDims.start
    exact dif_neg (by decide)
  have hwin1 : dims.window (ix2 b' d) 1 = 0 := by
    unfold ScatterDims.window
    exact dif_neg (by decide)
  have hwin0 : dims.window (ix2 b' d) 0 = b'.val := by
    unfold ScatterDims.window
    exact (dif_pos (by decide)).trans rfl
  have hstart1 : dims.start (ix2 b' d) idx 1 = (idx (ix2 d (0 : Fin 1))).toInt := by
    unfold ScatterDims.start
    refine (dif_pos (by decide)).trans (congrArg (fun i => (idx i).toInt) (funext fun a => ?_))
    match a with
    | ⟨0, _⟩ => rfl
    | ⟨1, _⟩ => exact Subsingleton.elim (α := Fin 1) _ _
  refine (Routing.resultIdx?_ix2 dims (ix2 b' d) idx b k).trans ?_
  rw [hstart0, hwin0, hstart1, hwin1, Fin.ext_iff]
  omega

/-- An update entry that lands in row `b`, column `k`: its row and its column's index word. -/
theorem lands_at (idx : IVec S2048x1 32) (b : Fin 1024) (k : Fin 16000) (j : S1024x2048.Idx)
    (h : dims.resultIdx? j idx = some (ix2 b k)) :
    (j 0 : Fin 1024) = b ∧ (idx (ix2 (j 1 : Fin 2048) (0 : Fin 1))).toInt = (k.val : Int) :=
  (lands idx (j 0) b (j 1) k).1 ((congrArg (fun i => dims.resultIdx? i idx) (eq_ix2 j).symm).trans h)

/-- The scatter at an entry. -/
theorem scatter_apply (x : FVec Ideal S1024x16000 .f32) (idx : IVec S2048x1 32) (upd : FVec Ideal S1024x2048 .f32)
    (b : Fin 1024) (k : Fin 16000) :
    Host.scatterAdd (F := Ideal) dims x idx upd (ix2 b k)
      = x (ix2 b k) + ∑ d ∈ Finset.univ.filter (fun d : Fin 2048 => (idx (ix2 d (0 : Fin 1))).toInt = (k.val : Int)), upd (ix2 b d) := by
  have back : ∀ j : S1024x2048.Idx, dims.resultIdx? j idx = some (ix2 b k) → (ix2 b (j 1 : Fin 2048) : S1024x2048.Idx) = j := fun j h =>
    (congrArg (fun r : Fin 1024 => (ix2 r (j 1 : Fin 2048) : S1024x2048.Idx)) (lands_at idx b k j h).1.symm).trans (eq_ix2 j).symm
  refine congrArg (x (ix2 b k) + ·) ?_
  exact Finset.sum_nbij' (fun j : S1024x2048.Idx => (j 1 : Fin 2048)) (fun d => (ix2 b d : S1024x2048.Idx))
    (fun j hj => Finset.mem_filter.2 ⟨Finset.mem_univ _, (lands_at idx b k j (Finset.mem_filter.1 hj).2).2⟩)
    (fun d hd => Finset.mem_filter.2 ⟨Finset.mem_univ _, (lands idx b b d k).2 ⟨rfl, (Finset.mem_filter.1 hd).2⟩⟩)
    (fun j hj => back j (Finset.mem_filter.1 hj).2)
    (fun d hd => rfl)
    (fun j hj => congrArg upd (back j (Finset.mem_filter.1 hj).2).symm)

end Cert.ReferenceIdeal.Scatter

end
-- ==== Proof.RefValue.lean ====
/- The reference's result, read at an entry: the convolution of the count sketches of the two rows. -/
module

public import proofs.«01_k».proof.Proof.Gen.ReferenceIdeal.Run
public import proofs.«01_k».proof.Proof.Scatter
public import proofs.«01_k».proof.Proof.Count
public import proofs.«01_k».proof.Proof.Tables
public import Idealize.ShloMosaic.Lib.Pointwise

@[expose] public section

set_option maxRecDepth 16384

noncomputable section

namespace Cert.ReferenceIdeal.RefValue

open Cert.ReferenceIdeal Cert.ReferenceIdeal.Gen
open Idealize.ShloMosaic Idealize.ShloMosaic.TcCoe Idealize.SL.Sem Cert.Fourier

/-- The reference's count sketch of a batch of rows. -/
def sketch (x : FVec Ideal S1024x2048 .f32) (i : IVec S2048 32) (s : FVec Ideal S2048 .f32) : FVec Ideal S1024x16000 .f32 :=
  Host.scatterAdd scatter_S1024x16000_S2048x1_S1024x2048_0_1_1_1
    (broadcastInDim S1024x16000 ![] bcast_S_S1024x16000 (constant S_ .f32 0x00000000#32))
    (broadcastInDim S2048x1 ![0] bcast_S2048_S2048x1_0
      (select (cmpi .slt i (broadcastInDim S2048 ![] bcast_S_S2048 (constantI S_ 32 0#32)))
        (addi i (broadcastInDim S2048 ![] bcast_S_S2048 (constantI S_ 32 16000#32))) i))
    (mulf x (broadcastInDim S1024x2048 ![0, 1] bcast_S1x2048_S1024x2048_0_1 (broadcastInDim S1x2048 ![1] bcast_S2048_S1x2048_1 s)))

/-- The reference's table of angles. -/
def ang : FVec Ideal S16000x16000 .f32 :=
  Host.divf (mulf (sitofp .f32 (Host.remsi
      (muli (broadcastInDim S16000x16000 ![0, 1] bcast_S16000x1_S16000x16000_0_1 (broadcastInDim S16000x1 ![0] bcast_S16000_S16000x1_0 (iotaInDim S16000 32 0)))
        (broadcastInDim S16000x16000 ![0, 1] bcast_S1x16000_S16000x16000_0_1 (broadcastInDim S1x16000 ![1] bcast_S16000_S1x16000_1 (iotaInDim S16000 32 0))))
      (broadcastInDim S16000x16000 ![] bcast_S_S16000x16000 (constantI S_ 32 16000#32))))
    (broadcastInDim S16000x16000 ![] bcast_S_S16000x16000 (mulf (constant S_ .f32 0x41000000#32) (Host.atan (constant S_ .f32 0x3F800000#32)))))
    (broadcastInDim S16000x16000 ![] bcast_S_S16000x16000 (constant S_ .f32 0x467A0000#32))

/-- A batch of rows times a square table. -/
abbrev dot (x : FVec Ideal S1024x16000 .f32) (t : FVec Ideal S16000x16000 .f32) : FVec Ideal S1024x16000 .f32 :=
  Host.dotGeneral dot_S1024x16000_S16000x16000_S1024x16000_1_0_0_1_n_n (some .fp32) x t

/-- The real part of the product of two spectra. -/
def zr (x y : FVec Ideal S1024x16000 .f32) : FVec Ideal S1024x16000 .f32 :=
  subf (mulf (dot x (Host.cos ang)) (dot y (Host.cos ang))) (mulf (Host.negf (dot x (Host.sin ang))) (Host.negf (dot y (Host.sin ang))))

/-- The imaginary part of the product of two spectra. -/
def zi (x y : FVec Ideal S1024x16000 .f32) : FVec Ideal S1024x16000 .f32 :=
  addf (mulf (dot x (Host.cos ang)) (Host.negf (dot y (Host.sin ang)))) (mulf (Host.negf (dot x (Host.sin ang))) (dot y (Host.cos ang)))

/-- The way back, scaled. -/
def back (z z' : FVec Ideal S1024x16000 .f32) : FVec Ideal S1024x16000 .f32 :=
  Host.divf (subf (dot z (Host.cos ang)) (dot z' (Host.sin ang))) (broadcastInDim S1024x16000 ![] bcast_S_S1024x16000 (constant S_ .f32 0x467A0000#32))

/-- The result term is these pieces put together. -/
theorem res_eq (m : (ℓ : Loc nD τ sig) → Buf (Elt Ideal) ℓ) (c : Dev nD) :
    Value.res_out0 m c = back
      (zr (sketch (m ((c.tc : Thread nD τ).loc main_arg0)) (m ((c.tc : Thread nD τ).loc main_arg3)) (m ((c.tc : Thread nD τ).loc main_arg2)))
        (sketch (m ((c.tc : Thread nD τ).loc main_arg1)) (m ((c.tc : Thread nD τ).loc main_arg5)) (m ((c.tc : Thread nD τ).loc main_arg4))))
      (zi (sketch (m ((c.tc : Thread nD τ).loc main_arg0)) (m ((c.tc : Thread nD τ).loc main_arg3)) (m ((c.tc : Thread nD τ).loc main_arg2)))
        (sketch (m ((c.tc : Thread nD τ).loc main_arg1)) (m ((c.tc : Thread nD τ).loc main_arg5)) (m ((c.tc : Thread nD τ).loc main_arg4)))) := by
  unfold Value.res_out0 Value.res_main_v55 back zr zi sketch ang dot
  rfl

/-- A sketch of real rows and signs at nonnegative indices is the real sketch. -/
theorem sketch_coe (x : FVec Ideal S1024x2048 .f32) (i : IVec S2048 32) (s : FVec Ideal S2048 .f32)
    (xr : Fin 1024 → Fin 2048 → ℝ) (sr : Fin 2048 → ℝ) (hx : ∀ b d, x (ix2 b d) = ((xr b d : ℝ) : EReal))
    (hs : ∀ d, s (ix1 d) = ((sr d : ℝ) : EReal)) (hi : ∀ d, 0 ≤ (i (ix1 d)).toInt) (b : Fin 1024) (k : Fin 16000) :
    sketch x i s (ix2 b k) = ((Count.sk (xr b) sr (fun d => (i (ix1 d)).toNat) k : ℝ) : EReal) := by
  unfold sketch
  refine (Scatter.scatter_apply _ _ _ b k).trans ?_
  pointwise []
  refine Eq.trans (Finset.sum_congr (Finset.filter_congr fun d _ => ?_) fun d _ => ?_) (Count.sum_filter (xr b) sr (fun d => (i (ix1 d)).toNat) k)
  · change (Scalar.select (IntOp.cmpi CmpIPredicate.slt (i (ix1 d)) 0#32) (IntOp.addi (i (ix1 d)) 16000#32) (i (ix1 d))).toInt = (k.val : ℤ) ↔ _
    rw [Count.wrap_nonneg _ _ (hi d), Count.word_toInt _ (hi d)]
    exact Nat.cast_inj
  · exact congrArg₂ (· * ·) (hx b d) (hs d)

/-- An entry of the table of angles. -/
theorem ang_apply (a b : Fin 16000) : ang (ix2 a b) = ((angle 16000 (a * b % 16000) : ℝ) : EReal) := by
  pointwise [ang]
  exact Cert.KernelIdeal.Tables.angle_word a b 16000 _ (by have := a.isLt; have := b.isLt; nlinarith) (by norm_num) (by norm_num) Scalars.ofBits_16000

/-- The cosines are the real parts of the roots of unity. -/
theorem cos_apply (a b : Fin 16000) : (Host.cos ang : FVec Ideal S16000x16000 .f32) (ix2 a b) = (((root 16000 (a * b)).re : ℝ) : EReal) := by
  pointwise []
  rw [ang_apply, Scalars.cos_coe, cos_mod _ (by norm_num)]
  rfl
/-- The sines are the imaginary parts, negated. -/
theorem sin_apply (a b : Fin 16000) : (Host.sin ang : FVec Ideal S16000x16000 .f32) (ix2 a b) = ((-(root 16000 (a * b)).im : ℝ) : EReal) := by
  pointwise []
  rw [ang_apply, Scalars.sin_coe, sin_mod _ (by norm_num), root_im, neg_neg]

/-- A row of reals times a table of reals. -/
theorem dot_apply (x : FVec Ideal S1024x16000 .f32) (t : FVec Ideal S16000x16000 .f32) (xr : Fin 16000 → ℝ) (tr : Fin 16000 → Fin 16000 → ℝ)
    (b : Fin 1024) (hx : ∀ k, x (ix2 b k) = ((xr k : ℝ) : EReal)) (ht : ∀ k n, t (ix2 k n) = ((tr k n : ℝ) : EReal)) (n : Fin 16000) :
    dot x t (ix2 b n) = ((∑ k, xr k * tr k n : ℝ) : EReal) := by
  unfold dot
  pointwise []
  simp only [hx, ht]
  exact Scalars.sum_mul_coe _ _ _

variable (x y : FVec Ideal S1024x16000 .f32) (xr yr : Fin 16000 → ℝ) (b : Fin 1024)
  (hx : ∀ k, x (ix2 b k) = ((xr k : ℝ) : EReal)) (hy : ∀ k, y (ix2 b k) = ((yr k : ℝ) : EReal))

include hx in
/-- The product with the cosines is the real part of the transform. -/
theorem dot_cos (k : Fin 16000) : dot x (Host.cos ang) (ix2 b k) = (((dft xr k).re : ℝ) : EReal) := by
  refine (dot_apply x _ xr _ b hx cos_apply k).trans (congrArg (fun r : ℝ => (r : EReal)) ?_)
  unfold dft
  rw [Complex.re_sum]
  exact Finset.sum_congr rfl fun n _ => (Complex.re_ofReal_mul _ _).symm

include hx in
/-- The negated product with the sines is the imaginary part of the transform. -/
theorem neg_dot_sin (k : Fin 16000) :
    (Host.negf (dot x (Host.sin ang)) : FVec Ideal S1024x16000 .f32) (ix2 b k) = (((dft xr k).im : ℝ) : EReal) := by
  refine Cert.KernelIdeal.Tables.negf_apply' _ _ _ (dot_apply x _ xr _ b hx sin_apply k) |>.trans (congrArg (fun r : ℝ => (r : EReal)) ?_)
  unfold dft
  rw [Complex.im_sum, ← Finset.sum_neg_distrib]
  refine Finset.sum_congr rfl fun n _ => ?_
  rw [Complex.im_ofReal_mul]
  ring

include hx hy in
/-- The real part of the product of the transforms. -/
theorem zr_apply (k : Fin 16000) : zr x y (ix2 b k) = (((dft xr k * dft yr k).re : ℝ) : EReal) := by
  refine (congrArg₂ (· - ·) (congrArg₂ (· * ·) (dot_cos x xr b hx k) (dot_cos y yr b hy k))
    (congrArg₂ (· * ·) (neg_dot_sin x xr b hx k) (neg_dot_sin y yr b hy k))).trans ?_
  rw [Complex.mul_re, EReal.coe_sub, EReal.coe_mul, EReal.coe_mul]

include hx hy in
/-- The imaginary part of the product of the transforms. -/
theorem zi_apply (k : Fin 16000) : zi x y (ix2 b k) = (((dft xr k * dft yr k).im : ℝ) : EReal) := by
  refine (congrArg₂ (· + ·) (congrArg₂ (· * ·) (dot_cos x xr b hx k) (neg_dot_sin y yr b hy k))
    (congrArg₂ (· * ·) (neg_dot_sin x xr b hx k) (dot_cos y yr b hy k))).trans ?_
  rw [Complex.mul_im, EReal.coe_add, EReal.coe_mul, EReal.coe_mul]

include hx hy in
/-- The result at an entry is the convolution of the rows. -/
theorem back_apply (n : Fin 16000) : back (zr x y) (zi x y) (ix2 b n) = ((conv xr yr n : ℝ) : EReal) := by
  have h1 := dot_apply (zr x y) (Host.cos ang) _ _ b (zr_apply x y xr yr b hx hy) cos_apply n
  have h2 := dot_apply (zi x y) (Host.sin ang) _ _ b (zi_apply x y xr yr b hx hy) sin_apply n
  have h3 : back (zr x y) (zi x y) (ix2 b n)
      = Ideal.div (dot (zr x y) (Host.cos ang) (ix2 b n) - dot (zi x y) (Host.sin ang) (ix2 b n)) (Ideal.ofBits .f32 0x467A0000#32) := by
    unfold back
    pointwise []
  rw [h3, h1, h2, Scalars.ofBits_16000, Ideal.div_coe (by norm_num), ← EReal.coe_sub, ← EReal.coe_mul]
  refine congrArg (fun r : ℝ => (r : EReal)) ?_
  unfold conv idft
  rw [Complex.re_sum, ← Finset.sum_sub_distrib, div_eq_mul_inv]
  refine congrArg₂ (· * ·) (Finset.sum_congr rfl fun k _ => ?_) (by norm_num)
  rw [Complex.mul_re (dft xr k * dft yr k) (starRingEnd ℂ _), Complex.conj_re, Complex.conj_im]

end Cert.ReferenceIdeal.RefValue

end
-- ==== Proof.Finite.lean ====
/- The precondition, read at the entries: rows and signs are real, indices nonnegative. -/
module

public import proofs.«01_k».proof.Proof.Gen.Pre_finite_rows
public import proofs.«01_k».proof.Proof.Scalars
public import Idealize.ShloMosaic.Lib.ReduceAll

@[expose] public section

set_option maxRecDepth 16384

noncomputable section

namespace Cert.Pre_finite_rows.Read

open Cert.Pre_finite_rows Cert.Pre_finite_rows.Gen
open Idealize.ShloMosaic

/-- A scalar array has one entry only. -/
instance : Subsingleton S_.Idx := ⟨fun a b => funext fun i => i.elim0⟩

/-- An extended real whose absolute value is below the top is a real. -/
theorem real_of_lt (x : EReal) (h : Ideal.cmp .olt (max x (-x)) (Ideal.ofBits .f32 0x7F800000#32) = 1#1) : x = ((x.toReal : ℝ) : EReal) := by
  rw [Scalars.ofBits_inf] at h
  induction x using EReal.rec with
  | bot => simp [Ideal.cmp] at h
  | coe r => rfl
  | top => simp [Ideal.cmp] at h

/-- What the precondition says of the arguments. -/
theorem read (a0 a1 : FVec Ideal S1024x2048 .f32) (a2 : FVec Ideal S2048 .f32) (a3 : IVec S2048 32) (a4 : FVec Ideal S2048 .f32) (a5 : IVec S2048 32)
    (h : fn (F := Ideal) a0 a1 a2 a3 a4 a5 = fun _ => 1#1) :
    (∀ i, a0 i = (((a0 i : EReal).toReal : ℝ) : EReal)) ∧ (∀ i, a1 i = (((a1 i : EReal).toReal : ℝ) : EReal)) ∧
    (∀ i, a2 i = (((a2 i : EReal).toReal : ℝ) : EReal)) ∧ (∀ i, 0 ≤ (a3 i).toInt) ∧
    (∀ i, a4 i = (((a4 i : EReal).toReal : ℝ) : EReal)) ∧ (∀ i, 0 ≤ (a5 i).toInt) := by
  have h0 := congrFun h (fun a => a.elim0)
  obtain ⟨h0, hI⟩ := IntOp.andi_eq_one.1 h0
  obtain ⟨h0, h4⟩ := IntOp.andi_eq_one.1 h0
  obtain ⟨h0, h2⟩ := IntOp.andi_eq_one.1 h0
  obtain ⟨h0, h1⟩ := IntOp.andi_eq_one.1 h0
  obtain ⟨h3, h5⟩ := IntOp.andi_eq_one.1 hI
  exact ⟨fun i => real_of_lt _ (Host.reduce_andi_all _ _ _ _ _ h0 i), fun i => real_of_lt _ (Host.reduce_andi_all _ _ _ _ _ h1 i),
    fun i => real_of_lt _ (Host.reduce_andi_all _ _ _ _ _ h2 i), fun i => IntOp.cmpi_sge.1 (Host.reduce_andi_all _ _ _ _ _ h3 i),
    fun i => real_of_lt _ (Host.reduce_andi_all _ _ _ _ _ h4 i), fun i => IntOp.cmpi_sge.1 (Host.reduce_andi_all _ _ _ _ _ h5 i)⟩

end Cert.Pre_finite_rows.Read

end
-- ==== Proof.Value.lean ====
/- Both programs' results, from arguments that satisfy the precondition: the convolutions of the rows' count sketches. -/
module

public import proofs.«01_k».proof.Proof.Third
public import proofs.«01_k».proof.Proof.RefValue
public import proofs.«01_k».proof.Proof.Finite

@[expose] public section

set_option maxRecDepth 16384

noncomputable section

namespace Cert.Value

open Idealize.ShloMosaic Idealize.ShloMosaic.TcCoe Idealize.SL.Sem

/-- The count sketches of a batch of rows, over the reals. -/
def rows (x : FVec Ideal Cert.KernelIdeal.S1024x2048 .f32) (i : IVec Cert.KernelIdeal.S2048 32) (s : FVec Ideal Cert.KernelIdeal.S2048 .f32)
    (b : Fin 1024) : Fin 16000 → ℝ :=
  Count.sk (fun d => (x (ix2 b d) : EReal).toReal) (fun d => (s (ix1 d) : EReal).toReal) (fun d => (i (ix1 d)).toNat)

section Kernel
open Cert.KernelIdeal Cert.KernelIdeal.Gen

/-- The kernel's result array. -/
theorem kernel (m : (ℓ : Loc nD τ sig) → Buf (Elt Ideal) ℓ) (ρ : Dev nD → PrngReg) (c : Dev nD)
    (h : Cert.Pre_finite_rows.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) = fun _ => 1#1) :
    W10 m ρ c (Proc.devRef .tc main_v64) = Third.conv
      (rows (m ((c.tc : Thread nD τ).loc main_arg0)) (m ((c.tc : Thread nD τ).loc main_arg3)) (m ((c.tc : Thread nD τ).loc main_arg2)))
      (rows (m ((c.tc : Thread nD τ).loc main_arg1)) (m ((c.tc : Thread nD τ).loc main_arg5)) (m ((c.tc : Thread nD τ).loc main_arg4))) := by
  obtain ⟨h0, h1, h2, h3, h4, h5⟩ := Cert.Pre_finite_rows.Read.read _ _ _ _ _ _ h
  refine (W10_arr m ρ c 8).trans (Third.final2 (V9 m ρ) c _ _ (fun b n => ?_) (fun b n => ?_) (Tables.W9_v57 m ρ c) (Tables.W9_v59 m ρ c)
    (Tables.W9_v61 m ρ c) (Tables.W9_v63 m ρ c) (Tables.W9_v52 m ρ c) (Tables.W9_v54 m ρ c))
  · exact (congrFun (Regions.W9_v2 m ρ c) _).trans (Regions.sketch_coe _ _ _ _ _ (fun b d => h0 (ix2 b d)) (fun d => h2 (ix1 d)) b n)
  · exact (congrFun (Regions.W9_v5 m ρ c) _).trans (Regions.sketch_coe _ _ _ _ _ (fun b d => h1 (ix2 b d)) (fun d => h4 (ix1 d)) b n)

end Kernel

section Reference
open Cert.ReferenceIdeal Cert.ReferenceIdeal.Gen

/-- The reference's result array. -/
theorem reference (m : (ℓ : Loc nD τ sig) → Buf (Elt Ideal) ℓ) (c : Dev nD)
    (h : Cert.Pre_finite_rows.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) = fun _ => 1#1) :
    Cert.ReferenceIdeal.Value.res_out0 m c = Cert.KernelIdeal.Third.conv
      (rows (m ((c.tc : Thread nD τ).loc main_arg0)) (m ((c.tc : Thread nD τ).loc main_arg3)) (m ((c.tc : Thread nD τ).loc main_arg2)))
      (rows (m ((c.tc : Thread nD τ).loc main_arg1)) (m ((c.tc : Thread nD τ).loc main_arg5)) (m ((c.tc : Thread nD τ).loc main_arg4))) := by
  obtain ⟨h0, h1, h2, h3, h4, h5⟩ := Cert.Pre_finite_rows.Read.read _ _ _ _ _ _ h
  refine (RefValue.res_eq m c).trans (funext fun i => ?_)
  obtain ⟨b, n, rfl⟩ : ∃ (b : Fin 1024) (n : Fin 16000), i = ix2 b n := ⟨i 0, i 1, eq_ix2 i⟩
  exact RefValue.back_apply _ _ _ _ b
    (fun k => RefValue.sketch_coe _ _ _ _ _ (fun b d => h0 (ix2 b d)) (fun d => h2 (ix1 d)) (fun d => h3 (ix1 d)) b k)
    (fun k => RefValue.sketch_coe _ _ _ _ _ (fun b d => h1 (ix2 b d)) (fun d => h4 (ix1 d)) (fun d => h5 (ix1 d)) b k) n

end Reference

end Cert.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_rows
public import proofs.«01_k».proof.Proof.Gen.ReferenceIdeal.Run
public import Idealize.ShloMosaic.Adequacy
public import Idealize.ShloMosaic.Init
public import Idealize.ShloMosaic.Lib.Quiescent
public import proofs.«01_k».proof.Proof.Launch
public import proofs.«01_k».proof.Proof.Value

@[expose] public section

noncomputable section

namespace Cert.Proof

open Idealize.ShloMosaic Idealize.SL.Sem

/-- The real form of the named constant `inv_n` rounds to the word the kernel states. -/
theorem named : Cert.preserves_Kernel_KernelIdeal :=
  IdealRules.named_const.statement Cert.KernelIdeal.κ "inv_n" .f32 0x3883126F#32 ((1 / 16000 : ℝ) : EReal) rfl

/-- From every initial memory the reference ends with its arguments unchanged and every semaphore counter zero. -/
theorem reference_frame : Cert.quiescent_ReferenceIdeal (hReferenceIdeal := Cert.ReferenceIdeal.Gen.facts) := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- From arguments that satisfy the precondition the kernel's result is the reference's. -/
theorem value : Cert.algebraic_KernelIdeal_ReferenceIdeal_pre_finite_rows (hPre_finite_rows := Cert.Pre_finite_rows.Gen.facts) := by
  intro m ρ m' ρ' hpre hagree
  refine ⟨_, Cert.KernelIdeal.Result.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5⟩ := hagree c
  have hp := hpre c
  refine (Cert.Value.reference m' c ?_).trans (Eq.trans ?_ (Cert.Value.kernel m ρ c hp).symm)
  · rw [e0, e1, e2, e3, e4, e5]; exact hp
  · rw [e0, e1, e2, e3, e4, e5]

/-- All the claims. -/
theorem claim : Cert.Claim := ⟨Cert.Kernel.Gen.facts, Cert.KernelIdeal.Gen.facts, Cert.ReferenceIdeal.Gen.facts, Cert.Pre_finite_rows.Gen.facts,
  fun m ρ _ => Cert.Kernel.Gen.frame m ρ,
  fun m ρ _ => Cert.KernelIdeal.Gen.frame m ρ,
  fun m ρ _ => Cert.KernelIdeal.Gen.frame m ρ,
  reference_frame,
  fun m ρ _ => reference_frame m ρ trivial,
  named,
  value⟩

end Cert.Proof

end
